-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 128]⟩ ⟨2, ![4096, 4096]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 2048]⟩ ⟨2, ![4096, 2048]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v14) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x128 : Shape := ⟨2, ![4096, 128]⟩
abbrev S4096x2048 : Shape := ⟨2, ![4096, 2048]⟩
abbrev S128x2048 : Shape := ⟨2, ![128, 2048]⟩
abbrev S32x128x128 : Shape := ⟨3, ![32, 128, 128]⟩
abbrev S128x4096 : Shape := ⟨2, ![128, 4096]⟩
abbrev S2x512x2048 : Shape := ⟨3, ![2, 512, 2048]⟩
abbrev S32 : Shape := ⟨1, ![32]⟩
abbrev S2 : Shape := ⟨1, ![2]⟩
abbrev S4 : Shape := ⟨1, ![4]⟩
abbrev S_ : Shape := ⟨0, ![]⟩
abbrev S128x128 : Shape := ⟨2, ![128, 128]⟩
abbrev S1 : Shape := ⟨1, ![1]⟩
abbrev S1x128x128 : Shape := ⟨3, ![1, 128, 128]⟩
abbrev S1x128x2048 : Shape := ⟨3, ![1, 128, 2048]⟩
abbrev S1x512x2048 : Shape := ⟨3, ![1, 512, 2048]⟩
abbrev S512x2048 : Shape := ⟨2, ![512, 2048]⟩
abbrev S128x512 : Shape := ⟨2, ![128, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x128, .bf16⟩
  | .hbm, ⟨1, _⟩ => ⟨S4096x2048, .f32⟩
  | .hbm, ⟨2, _⟩ => ⟨S128x2048, .f32⟩
  | .local _ .vmem, ⟨0, _⟩ => ⟨S4096x128, .bf16⟩
  | .local _ .vmem, ⟨1, _⟩ => ⟨S128x2048, .f32⟩
  | .local _ .vmem, ⟨2, _⟩ => ⟨S32x128x128, .bf16⟩
  | .local _ .vmem, ⟨3, _⟩ => ⟨S128x4096, .bf16⟩
  | .local _ .vmem, ⟨4, _⟩ => ⟨S2x512x2048, .f32⟩
  | _, _ => ⟨S4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  (ofTc nBuf bufTy 1 72 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let v5 : BitVec 32 := Scalar.remsi v4 c32_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v8 : BitVec 32 := Scalar.addi v2 c2_i32
  let c32_i32_4 : BitVec 32 := 32#32
  let v9 : BitVec 32 := Scalar.remsi v8 c32_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v12 : BitVec 32 := Scalar.addi v2 c3_i32
  let c32_i32_8 : BitVec 32 := 32#32
  let v13 : BitVec 32 := Scalar.remsi v12 c32_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v16 : BitVec 32 := Scalar.addi v2 c4_i32
  let c32_i32_12 : BitVec 32 := 32#32
  let v17 : BitVec 32 := Scalar.remsi v16 c32_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v20 : BitVec 32 := Scalar.addi v2 c5_i32
  let c32_i32_16 : BitVec 32 := 32#32
  let v21 : BitVec 32 := Scalar.remsi v20 c32_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v24 : BitVec 32 := Scalar.addi v2 c6_i32
  let c32_i32_20 : BitVec 32 := 32#32
  let v25 : BitVec 32 := Scalar.remsi v24 c32_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v28 : BitVec 32 := Scalar.addi v2 c7_i32
  let c32_i32_24 : BitVec 32 := 32#32
  let v29 : BitVec 32 := Scalar.remsi v28 c32_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v32 : BitVec 32 := Scalar.addi v2 c8_i32
  let c32_i32_28 : BitVec 32 := 32#32
  let v33 : BitVec 32 := Scalar.remsi v32 c32_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v36 : BitVec 32 := Scalar.addi v2 c9_i32
  let c32_i32_32 : BitVec 32 := 32#32
  let v37 : BitVec 32 := Scalar.remsi v36 c32_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v40 : BitVec 32 := Scalar.addi v2 c10_i32
  let c32_i32_36 : BitVec 32 := 32#32
  let v41 : BitVec 32 := Scalar.remsi v40 c32_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v44 : BitVec 32 := Scalar.addi v2 c11_i32
  let c32_i32_40 : BitVec 32 := 32#32
  let v45 : BitVec 32 := Scalar.remsi v44 c32_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v48 : BitVec 32 := Scalar.addi v2 c12_i32
  let c32_i32_44 : BitVec 32 := 32#32
  let v49 : BitVec 32 := Scalar.remsi v48 c32_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v52 : BitVec 32 := Scalar.addi v2 c13_i32
  let c32_i32_48 : BitVec 32 := 32#32
  let v53 : BitVec 32 := Scalar.remsi v52 c32_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v56 : BitVec 32 := Scalar.addi v2 c14_i32
  let c32_i32_52 : BitVec 32 := 32#32
  let v57 : BitVec 32 := Scalar.remsi v56 c32_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v60 : BitVec 32 := Scalar.addi v2 c15_i32
  let c32_i32_56 : BitVec 32 := 32#32
  let v61 : BitVec 32 := Scalar.remsi v60 c32_i32_56
  let c1_i32_58 : BitVec 32 := 1#32
  let v62 : BitVec 32 := Scalar.muli v61 c1_i32_58
  let v63 : BitVec 32 := Scalar.addi c0_i32_59 v62
  v63.toNat
def k0_dev16 (d0 : Dev nD) : Nat :=
  let c0_i32_63 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v64 : BitVec 32 := Scalar.addi v2 c16_i32
  let c32_i32_60 : BitVec 32 := 32#32
  let v65 : BitVec 32 := Scalar.remsi v64 c32_i32_60
  let c1_i32_62 : BitVec 32 := 1#32
  let v66 : BitVec 32 := Scalar.muli v65 c1_i32_62
  let v67 : BitVec 32 := Scalar.addi c0_i32_63 v66
  v67.toNat
def k0_dev17 (d0 : Dev nD) : Nat :=
  let c0_i32_67 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v68 : BitVec 32 := Scalar.addi v2 c17_i32
  let c32_i32_64 : BitVec 32 := 32#32
  let v69 : BitVec 32 := Scalar.remsi v68 c32_i32_64
  let c1_i32_66 : BitVec 32 := 1#32
  let v70 : BitVec 32 := Scalar.muli v69 c1_i32_66
  let v71 : BitVec 32 := Scalar.addi c0_i32_67 v70
  v71.toNat
def k0_dev18 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v72 : BitVec 32 := Scalar.addi v2 c18_i32
  let c32_i32_68 : BitVec 32 := 32#32
  let v73 : BitVec 32 := Scalar.remsi v72 c32_i32_68
  let c1_i32_70 : BitVec 32 := 1#32
  let v74 : BitVec 32 := Scalar.muli v73 c1_i32_70
  let v75 : BitVec 32 := Scalar.addi c0_i32_71 v74
  v75.toNat
def k0_dev19 (d0 : Dev nD) : Nat :=
  let c0_i32_75 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v76 : BitVec 32 := Scalar.addi v2 c19_i32
  let c32_i32_72 : BitVec 32 := 32#32
  let v77 : BitVec 32 := Scalar.remsi v76 c32_i32_72
  let c1_i32_74 : BitVec 32 := 1#32
  let v78 : BitVec 32 := Scalar.muli v77 c1_i32_74
  let v79 : BitVec 32 := Scalar.addi c0_i32_75 v78
  v79.toNat
def k0_dev20 (d0 : Dev nD) : Nat :=
  let c0_i32_79 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v80 : BitVec 32 := Scalar.addi v2 c20_i32
  let c32_i32_76 : BitVec 32 := 32#32
  let v81 : BitVec 32 := Scalar.remsi v80 c32_i32_76
  let c1_i32_78 : BitVec 32 := 1#32
  let v82 : BitVec 32 := Scalar.muli v81 c1_i32_78
  let v83 : BitVec 32 := Scalar.addi c0_i32_79 v82
  v83.toNat
def k0_dev21 (d0 : Dev nD) : Nat :=
  let c0_i32_83 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v84 : BitVec 32 := Scalar.addi v2 c21_i32
  let c32_i32_80 : BitVec 32 := 32#32
  let v85 : BitVec 32 := Scalar.remsi v84 c32_i32_80
  let c1_i32_82 : BitVec 32 := 1#32
  let v86 : BitVec 32 := Scalar.muli v85 c1_i32_82
  let v87 : BitVec 32 := Scalar.addi c0_i32_83 v86
  v87.toNat
def k0_dev22 (d0 : Dev nD) : Nat :=
  let c0_i32_87 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v88 : BitVec 32 := Scalar.addi v2 c22_i32
  let c32_i32_84 : BitVec 32 := 32#32
  let v89 : BitVec 32 := Scalar.remsi v88 c32_i32_84
  let c1_i32_86 : BitVec 32 := 1#32
  let v90 : BitVec 32 := Scalar.muli v89 c1_i32_86
  let v91 : BitVec 32 := Scalar.addi c0_i32_87 v90
  v91.toNat
def k0_dev23 (d0 : Dev nD) : Nat :=
  let c0_i32_91 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v92 : BitVec 32 := Scalar.addi v2 c23_i32
  let c32_i32_88 : BitVec 32 := 32#32
  let v93 : BitVec 32 := Scalar.remsi v92 c32_i32_88
  let c1_i32_90 : BitVec 32 := 1#32
  let v94 : BitVec 32 := Scalar.muli v93 c1_i32_90
  let v95 : BitVec 32 := Scalar.addi c0_i32_91 v94
  v95.toNat
def k0_dev24 (d0 : Dev nD) : Nat :=
  let c0_i32_95 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v96 : BitVec 32 := Scalar.addi v2 c24_i32
  let c32_i32_92 : BitVec 32 := 32#32
  let v97 : BitVec 32 := Scalar.remsi v96 c32_i32_92
  let c1_i32_94 : BitVec 32 := 1#32
  let v98 : BitVec 32 := Scalar.muli v97 c1_i32_94
  let v99 : BitVec 32 := Scalar.addi c0_i32_95 v98
  v99.toNat
def k0_dev25 (d0 : Dev nD) : Nat :=
  let c0_i32_99 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v100 : BitVec 32 := Scalar.addi v2 c25_i32
  let c32_i32_96 : BitVec 32 := 32#32
  let v101 : BitVec 32 := Scalar.remsi v100 c32_i32_96
  let c1_i32_98 : BitVec 32 := 1#32
  let v102 : BitVec 32 := Scalar.muli v101 c1_i32_98
  let v103 : BitVec 32 := Scalar.addi c0_i32_99 v102
  v103.toNat
def k0_dev26 (d0 : Dev nD) : Nat :=
  let c0_i32_103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v104 : BitVec 32 := Scalar.addi v2 c26_i32
  let c32_i32_100 : BitVec 32 := 32#32
  let v105 : BitVec 32 := Scalar.remsi v104 c32_i32_100
  let c1_i32_102 : BitVec 32 := 1#32
  let v106 : BitVec 32 := Scalar.muli v105 c1_i32_102
  let v107 : BitVec 32 := Scalar.addi c0_i32_103 v106
  v107.toNat
def k0_dev27 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v108 : BitVec 32 := Scalar.addi v2 c27_i32
  let c32_i32_104 : BitVec 32 := 32#32
  let v109 : BitVec 32 := Scalar.remsi v108 c32_i32_104
  let c1_i32_106 : BitVec 32 := 1#32
  let v110 : BitVec 32 := Scalar.muli v109 c1_i32_106
  let v111 : BitVec 32 := Scalar.addi c0_i32_107 v110
  v111.toNat
def k0_dev28 (d0 : Dev nD) : Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v112 : BitVec 32 := Scalar.addi v2 c28_i32
  let c32_i32_108 : BitVec 32 := 32#32
  let v113 : BitVec 32 := Scalar.remsi v112 c32_i32_108
  let c1_i32_110 : BitVec 32 := 1#32
  let v114 : BitVec 32 := Scalar.muli v113 c1_i32_110
  let v115 : BitVec 32 := Scalar.addi c0_i32_111 v114
  v115.toNat
def k0_dev29 (d0 : Dev nD) : Nat :=
  let c0_i32_115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v116 : BitVec 32 := Scalar.addi v2 c29_i32
  let c32_i32_112 : BitVec 32 := 32#32
  let v117 : BitVec 32 := Scalar.remsi v116 c32_i32_112
  let c1_i32_114 : BitVec 32 := 1#32
  let v118 : BitVec 32 := Scalar.muli v117 c1_i32_114
  let v119 : BitVec 32 := Scalar.addi c0_i32_115 v118
  v119.toNat
def k0_dev30 (d0 : Dev nD) : Nat :=
  let c0_i32_119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v120 : BitVec 32 := Scalar.addi v2 c30_i32
  let c32_i32_116 : BitVec 32 := 32#32
  let v121 : BitVec 32 := Scalar.remsi v120 c32_i32_116
  let c1_i32_118 : BitVec 32 := 1#32
  let v122 : BitVec 32 := Scalar.muli v121 c1_i32_118
  let v123 : BitVec 32 := Scalar.addi c0_i32_119 v122
  v123.toNat
def k0_dev31 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v124 : BitVec 32 := Scalar.addi v2 c31_i32
  let c32_i32_120 : BitVec 32 := 32#32
  let v125 : BitVec 32 := Scalar.remsi v124 c32_i32_120
  let c1_i32_122 : BitVec 32 := 1#32
  let v126 : BitVec 32 := Scalar.muli v125 c1_i32_122
  let v127 : BitVec 32 := Scalar.addi c0_i32_123 v126
  v127.toNat
def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v128 : BitVec 32 := Scalar.muli v2 c128_i32
  let v129 : Index := Scalar.indexCast v128
  let c0 : Index := 0#32
  ![v129.toNat, 0]
def k0_off2 (d0 : Dev nD) (c1_i32_127 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v135 : BitVec 32 := Scalar.addi v2 c1_i32_127
  let c32_i32_128 : BitVec 32 := 32#32
  let v136 : BitVec 32 := Scalar.remsi v135 c32_i32_128
  let c128_i32_129 : BitVec 32 := 128#32
  let v137 : BitVec 32 := Scalar.muli v136 c128_i32_129
  let c0_i32_137 : BitVec 32 := 0#32
  ![v137.toNat, 0]
def k0_dev32 (d0 : Dev nD) : Nat :=
  let c0_i32_134 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_127 : BitVec 32 := 1#32
  let v135 : BitVec 32 := Scalar.addi v2 c1_i32_127
  let c32_i32_128 : BitVec 32 := 32#32
  let v136 : BitVec 32 := Scalar.remsi v135 c32_i32_128
  let c1_i32_133 : BitVec 32 := 1#32
  let v138 : BitVec 32 := Scalar.muli v136 c1_i32_133
  let v139 : BitVec 32 := Scalar.addi c0_i32_134 v138
  v139.toNat
def k0_dev33 (d0 : Dev nD) : Nat :=
  let c0_i32_145 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_138 : BitVec 32 := 2#32
  let v147 : BitVec 32 := Scalar.addi v2 c2_i32_138
  let c32_i32_139 : BitVec 32 := 32#32
  let v148 : BitVec 32 := Scalar.remsi v147 c32_i32_139
  let c1_i32_144 : BitVec 32 := 1#32
  let v150 : BitVec 32 := Scalar.muli v148 c1_i32_144
  let v151 : BitVec 32 := Scalar.addi c0_i32_145 v150
  v151.toNat
def k0_dev34 (d0 : Dev nD) : Nat :=
  let c0_i32_156 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_149 : BitVec 32 := 3#32
  let v159 : BitVec 32 := Scalar.addi v2 c3_i32_149
  let c32_i32_150 : BitVec 32 := 32#32
  let v160 : BitVec 32 := Scalar.remsi v159 c32_i32_150
  let c1_i32_155 : BitVec 32 := 1#32
  let v162 : BitVec 32 := Scalar.muli v160 c1_i32_155
  let v163 : BitVec 32 := Scalar.addi c0_i32_156 v162
  v163.toNat
def k0_dev35 (d0 : Dev nD) : Nat :=
  let c0_i32_167 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_160 : BitVec 32 := 4#32
  let v171 : BitVec 32 := Scalar.addi v2 c4_i32_160
  let c32_i32_161 : BitVec 32 := 32#32
  let v172 : BitVec 32 := Scalar.remsi v171 c32_i32_161
  let c1_i32_166 : BitVec 32 := 1#32
  let v174 : BitVec 32 := Scalar.muli v172 c1_i32_166
  let v175 : BitVec 32 := Scalar.addi c0_i32_167 v174
  v175.toNat
def k0_dev36 (d0 : Dev nD) : Nat :=
  let c0_i32_178 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_171 : BitVec 32 := 5#32
  let v183 : BitVec 32 := Scalar.addi v2 c5_i32_171
  let c32_i32_172 : BitVec 32 := 32#32
  let v184 : BitVec 32 := Scalar.remsi v183 c32_i32_172
  let c1_i32_177 : BitVec 32 := 1#32
  let v186 : BitVec 32 := Scalar.muli v184 c1_i32_177
  let v187 : BitVec 32 := Scalar.addi c0_i32_178 v186
  v187.toNat
def k0_dev37 (d0 : Dev nD) : Nat :=
  let c0_i32_189 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_182 : BitVec 32 := 6#32
  let v195 : BitVec 32 := Scalar.addi v2 c6_i32_182
  let c32_i32_183 : BitVec 32 := 32#32
  let v196 : BitVec 32 := Scalar.remsi v195 c32_i32_183
  let c1_i32_188 : BitVec 32 := 1#32
  let v198 : BitVec 32 := Scalar.muli v196 c1_i32_188
  let v199 : BitVec 32 := Scalar.addi c0_i32_189 v198
  v199.toNat
def k0_dev38 (d0 : Dev nD) : Nat :=
  let c0_i32_200 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_193 : BitVec 32 := 7#32
  let v207 : BitVec 32 := Scalar.addi v2 c7_i32_193
  let c32_i32_194 : BitVec 32 := 32#32
  let v208 : BitVec 32 := Scalar.remsi v207 c32_i32_194
  let c1_i32_199 : BitVec 32 := 1#32
  let v210 : BitVec 32 := Scalar.muli v208 c1_i32_199
  let v211 : BitVec 32 := Scalar.addi c0_i32_200 v210
  v211.toNat
def k0_dev39 (d0 : Dev nD) : Nat :=
  let c0_i32_211 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_204 : BitVec 32 := 8#32
  let v219 : BitVec 32 := Scalar.addi v2 c8_i32_204
  let c32_i32_205 : BitVec 32 := 32#32
  let v220 : BitVec 32 := Scalar.remsi v219 c32_i32_205
  let c1_i32_210 : BitVec 32 := 1#32
  let v222 : BitVec 32 := Scalar.muli v220 c1_i32_210
  let v223 : BitVec 32 := Scalar.addi c0_i32_211 v222
  v223.toNat
def k0_dev40 (d0 : Dev nD) : Nat :=
  let c0_i32_222 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_215 : BitVec 32 := 9#32
  let v231 : BitVec 32 := Scalar.addi v2 c9_i32_215
  let c32_i32_216 : BitVec 32 := 32#32
  let v232 : BitVec 32 := Scalar.remsi v231 c32_i32_216
  let c1_i32_221 : BitVec 32 := 1#32
  let v234 : BitVec 32 := Scalar.muli v232 c1_i32_221
  let v235 : BitVec 32 := Scalar.addi c0_i32_222 v234
  v235.toNat
def k0_dev41 (d0 : Dev nD) : Nat :=
  let c0_i32_233 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_226 : BitVec 32 := 10#32
  let v243 : BitVec 32 := Scalar.addi v2 c10_i32_226
  let c32_i32_227 : BitVec 32 := 32#32
  let v244 : BitVec 32 := Scalar.remsi v243 c32_i32_227
  let c1_i32_232 : BitVec 32 := 1#32
  let v246 : BitVec 32 := Scalar.muli v244 c1_i32_232
  let v247 : BitVec 32 := Scalar.addi c0_i32_233 v246
  v247.toNat
def k0_dev42 (d0 : Dev nD) : Nat :=
  let c0_i32_244 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_237 : BitVec 32 := 11#32
  let v255 : BitVec 32 := Scalar.addi v2 c11_i32_237
  let c32_i32_238 : BitVec 32 := 32#32
  let v256 : BitVec 32 := Scalar.remsi v255 c32_i32_238
  let c1_i32_243 : BitVec 32 := 1#32
  let v258 : BitVec 32 := Scalar.muli v256 c1_i32_243
  let v259 : BitVec 32 := Scalar.addi c0_i32_244 v258
  v259.toNat
def k0_dev43 (d0 : Dev nD) : Nat :=
  let c0_i32_255 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_248 : BitVec 32 := 12#32
  let v267 : BitVec 32 := Scalar.addi v2 c12_i32_248
  let c32_i32_249 : BitVec 32 := 32#32
  let v268 : BitVec 32 := Scalar.remsi v267 c32_i32_249
  let c1_i32_254 : BitVec 32 := 1#32
  let v270 : BitVec 32 := Scalar.muli v268 c1_i32_254
  let v271 : BitVec 32 := Scalar.addi c0_i32_255 v270
  v271.toNat
def k0_dev44 (d0 : Dev nD) : Nat :=
  let c0_i32_266 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_259 : BitVec 32 := 13#32
  let v279 : BitVec 32 := Scalar.addi v2 c13_i32_259
  let c32_i32_260 : BitVec 32 := 32#32
  let v280 : BitVec 32 := Scalar.remsi v279 c32_i32_260
  let c1_i32_265 : BitVec 32 := 1#32
  let v282 : BitVec 32 := Scalar.muli v280 c1_i32_265
  let v283 : BitVec 32 := Scalar.addi c0_i32_266 v282
  v283.toNat
def k0_dev45 (d0 : Dev nD) : Nat :=
  let c0_i32_277 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_270 : BitVec 32 := 14#32
  let v291 : BitVec 32 := Scalar.addi v2 c14_i32_270
  let c32_i32_271 : BitVec 32 := 32#32
  let v292 : BitVec 32 := Scalar.remsi v291 c32_i32_271
  let c1_i32_276 : BitVec 32 := 1#32
  let v294 : BitVec 32 := Scalar.muli v292 c1_i32_276
  let v295 : BitVec 32 := Scalar.addi c0_i32_277 v294
  v295.toNat
def k0_dev46 (d0 : Dev nD) : Nat :=
  let c0_i32_288 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_281 : BitVec 32 := 15#32
  let v303 : BitVec 32 := Scalar.addi v2 c15_i32_281
  let c32_i32_282 : BitVec 32 := 32#32
  let v304 : BitVec 32 := Scalar.remsi v303 c32_i32_282
  let c1_i32_287 : BitVec 32 := 1#32
  let v306 : BitVec 32 := Scalar.muli v304 c1_i32_287
  let v307 : BitVec 32 := Scalar.addi c0_i32_288 v306
  v307.toNat
def k0_dev47 (d0 : Dev nD) : Nat :=
  let c0_i32_299 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_292 : BitVec 32 := 16#32
  let v315 : BitVec 32 := Scalar.addi v2 c16_i32_292
  let c32_i32_293 : BitVec 32 := 32#32
  let v316 : BitVec 32 := Scalar.remsi v315 c32_i32_293
  let c1_i32_298 : BitVec 32 := 1#32
  let v318 : BitVec 32 := Scalar.muli v316 c1_i32_298
  let v319 : BitVec 32 := Scalar.addi c0_i32_299 v318
  v319.toNat
def k0_dev48 (d0 : Dev nD) : Nat :=
  let c0_i32_310 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_303 : BitVec 32 := 17#32
  let v327 : BitVec 32 := Scalar.addi v2 c17_i32_303
  let c32_i32_304 : BitVec 32 := 32#32
  let v328 : BitVec 32 := Scalar.remsi v327 c32_i32_304
  let c1_i32_309 : BitVec 32 := 1#32
  let v330 : BitVec 32 := Scalar.muli v328 c1_i32_309
  let v331 : BitVec 32 := Scalar.addi c0_i32_310 v330
  v331.toNat
def k0_dev49 (d0 : Dev nD) : Nat :=
  let c0_i32_321 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_314 : BitVec 32 := 18#32
  let v339 : BitVec 32 := Scalar.addi v2 c18_i32_314
  let c32_i32_315 : BitVec 32 := 32#32
  let v340 : BitVec 32 := Scalar.remsi v339 c32_i32_315
  let c1_i32_320 : BitVec 32 := 1#32
  let v342 : BitVec 32 := Scalar.muli v340 c1_i32_320
  let v343 : BitVec 32 := Scalar.addi c0_i32_321 v342
  v343.toNat
def k0_dev50 (d0 : Dev nD) : Nat :=
  let c0_i32_332 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_325 : BitVec 32 := 19#32
  let v351 : BitVec 32 := Scalar.addi v2 c19_i32_325
  let c32_i32_326 : BitVec 32 := 32#32
  let v352 : BitVec 32 := Scalar.remsi v351 c32_i32_326
  let c1_i32_331 : BitVec 32 := 1#32
  let v354 : BitVec 32 := Scalar.muli v352 c1_i32_331
  let v355 : BitVec 32 := Scalar.addi c0_i32_332 v354
  v355.toNat
def k0_dev51 (d0 : Dev nD) : Nat :=
  let c0_i32_343 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_336 : BitVec 32 := 20#32
  let v363 : BitVec 32 := Scalar.addi v2 c20_i32_336
  let c32_i32_337 : BitVec 32 := 32#32
  let v364 : BitVec 32 := Scalar.remsi v363 c32_i32_337
  let c1_i32_342 : BitVec 32 := 1#32
  let v366 : BitVec 32 := Scalar.muli v364 c1_i32_342
  let v367 : BitVec 32 := Scalar.addi c0_i32_343 v366
  v367.toNat
def k0_dev52 (d0 : Dev nD) : Nat :=
  let c0_i32_354 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_347 : BitVec 32 := 21#32
  let v375 : BitVec 32 := Scalar.addi v2 c21_i32_347
  let c32_i32_348 : BitVec 32 := 32#32
  let v376 : BitVec 32 := Scalar.remsi v375 c32_i32_348
  let c1_i32_353 : BitVec 32 := 1#32
  let v378 : BitVec 32 := Scalar.muli v376 c1_i32_353
  let v379 : BitVec 32 := Scalar.addi c0_i32_354 v378
  v379.toNat
def k0_dev53 (d0 : Dev nD) : Nat :=
  let c0_i32_365 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_358 : BitVec 32 := 22#32
  let v387 : BitVec 32 := Scalar.addi v2 c22_i32_358
  let c32_i32_359 : BitVec 32 := 32#32
  let v388 : BitVec 32 := Scalar.remsi v387 c32_i32_359
  let c1_i32_364 : BitVec 32 := 1#32
  let v390 : BitVec 32 := Scalar.muli v388 c1_i32_364
  let v391 : BitVec 32 := Scalar.addi c0_i32_365 v390
  v391.toNat
def k0_dev54 (d0 : Dev nD) : Nat :=
  let c0_i32_376 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_369 : BitVec 32 := 23#32
  let v399 : BitVec 32 := Scalar.addi v2 c23_i32_369
  let c32_i32_370 : BitVec 32 := 32#32
  let v400 : BitVec 32 := Scalar.remsi v399 c32_i32_370
  let c1_i32_375 : BitVec 32 := 1#32
  let v402 : BitVec 32 := Scalar.muli v400 c1_i32_375
  let v403 : BitVec 32 := Scalar.addi c0_i32_376 v402
  v403.toNat
def k0_dev55 (d0 : Dev nD) : Nat :=
  let c0_i32_387 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_380 : BitVec 32 := 24#32
  let v411 : BitVec 32 := Scalar.addi v2 c24_i32_380
  let c32_i32_381 : BitVec 32 := 32#32
  let v412 : BitVec 32 := Scalar.remsi v411 c32_i32_381
  let c1_i32_386 : BitVec 32 := 1#32
  let v414 : BitVec 32 := Scalar.muli v412 c1_i32_386
  let v415 : BitVec 32 := Scalar.addi c0_i32_387 v414
  v415.toNat
def k0_dev56 (d0 : Dev nD) : Nat :=
  let c0_i32_398 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_391 : BitVec 32 := 25#32
  let v423 : BitVec 32 := Scalar.addi v2 c25_i32_391
  let c32_i32_392 : BitVec 32 := 32#32
  let v424 : BitVec 32 := Scalar.remsi v423 c32_i32_392
  let c1_i32_397 : BitVec 32 := 1#32
  let v426 : BitVec 32 := Scalar.muli v424 c1_i32_397
  let v427 : BitVec 32 := Scalar.addi c0_i32_398 v426
  v427.toNat
def k0_dev57 (d0 : Dev nD) : Nat :=
  let c0_i32_409 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_402 : BitVec 32 := 26#32
  let v435 : BitVec 32 := Scalar.addi v2 c26_i32_402
  let c32_i32_403 : BitVec 32 := 32#32
  let v436 : BitVec 32 := Scalar.remsi v435 c32_i32_403
  let c1_i32_408 : BitVec 32 := 1#32
  let v438 : BitVec 32 := Scalar.muli v436 c1_i32_408
  let v439 : BitVec 32 := Scalar.addi c0_i32_409 v438
  v439.toNat
def k0_dev58 (d0 : Dev nD) : Nat :=
  let c0_i32_420 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_413 : BitVec 32 := 27#32
  let v447 : BitVec 32 := Scalar.addi v2 c27_i32_413
  let c32_i32_414 : BitVec 32 := 32#32
  let v448 : BitVec 32 := Scalar.remsi v447 c32_i32_414
  let c1_i32_419 : BitVec 32 := 1#32
  let v450 : BitVec 32 := Scalar.muli v448 c1_i32_419
  let v451 : BitVec 32 := Scalar.addi c0_i32_420 v450
  v451.toNat
def k0_dev59 (d0 : Dev nD) : Nat :=
  let c0_i32_431 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_424 : BitVec 32 := 28#32
  let v459 : BitVec 32 := Scalar.addi v2 c28_i32_424
  let c32_i32_425 : BitVec 32 := 32#32
  let v460 : BitVec 32 := Scalar.remsi v459 c32_i32_425
  let c1_i32_430 : BitVec 32 := 1#32
  let v462 : BitVec 32 := Scalar.muli v460 c1_i32_430
  let v463 : BitVec 32 := Scalar.addi c0_i32_431 v462
  v463.toNat
def k0_dev60 (d0 : Dev nD) : Nat :=
  let c0_i32_442 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_435 : BitVec 32 := 29#32
  let v471 : BitVec 32 := Scalar.addi v2 c29_i32_435
  let c32_i32_436 : BitVec 32 := 32#32
  let v472 : BitVec 32 := Scalar.remsi v471 c32_i32_436
  let c1_i32_441 : BitVec 32 := 1#32
  let v474 : BitVec 32 := Scalar.muli v472 c1_i32_441
  let v475 : BitVec 32 := Scalar.addi c0_i32_442 v474
  v475.toNat
def k0_dev61 (d0 : Dev nD) : Nat :=
  let c0_i32_453 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_446 : BitVec 32 := 30#32
  let v483 : BitVec 32 := Scalar.addi v2 c30_i32_446
  let c32_i32_447 : BitVec 32 := 32#32
  let v484 : BitVec 32 := Scalar.remsi v483 c32_i32_447
  let c1_i32_452 : BitVec 32 := 1#32
  let v486 : BitVec 32 := Scalar.muli v484 c1_i32_452
  let v487 : BitVec 32 := Scalar.addi c0_i32_453 v486
  v487.toNat
def k0_dev62 (d0 : Dev nD) : Nat :=
  let c0_i32_464 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_457 : BitVec 32 := 31#32
  let v495 : BitVec 32 := Scalar.addi v2 c31_i32_457
  let c32_i32_458 : BitVec 32 := 32#32
  let v496 : BitVec 32 := Scalar.remsi v495 c32_i32_458
  let c1_i32_463 : BitVec 32 := 1#32
  let v498 : BitVec 32 := Scalar.muli v496 c1_i32_463
  let v499 : BitVec 32 := Scalar.addi c0_i32_464 v498
  v499.toNat
def k0_off3 (d0 : Dev nD) (c32_i32_468 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v507 : BitVec 32 := Scalar.addi v2 c32_i32_468
  let c32_i32_469 : BitVec 32 := 32#32
  let v508 : BitVec 32 := Scalar.remsi v507 c32_i32_469
  let c128_i32_470 : BitVec 32 := 128#32
  let v509 : BitVec 32 := Scalar.muli v508 c128_i32_470
  let c0_i32_475 : BitVec 32 := 0#32
  ![v509.toNat, 0]
abbrev stage0_0 : Fin 1 → Memref sig .tc .vmem S4096x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .f32⟩
  | .hbm, ⟨2, _⟩ => ⟨S4096x4096, .f32⟩
  | .hbm, ⟨3, _⟩ => ⟨S4096x2048, .f32⟩
  | .hbm, ⟨4, _⟩ => ⟨S_, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S_, .f32⟩
  | .hbm, ⟨18, _⟩ => ⟨S4096x2048, .f32⟩
  | .hbm, ⟨19, _⟩ => ⟨S4096x2048, .f32⟩
  | .hbm, ⟨20, _⟩ => ⟨S4096x2048, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Proof.Geometry.lean ====
/-
The buffers' pieces: which elements each transfer's window covers, where an element of a window lies in its buffer,
and the semaphores the arrays name. Everything is indexed by natural numbers: slot `t` of the landing buffer, column
block `t` of the gathered buffer, row block `r` of the staged `x` and of `w`, piece `n` of the double buffer of `w`.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.ValueLayout
public import Idealize.ShloMosaic.Lib.Tactic

@[expose] public section

set_option maxRecDepth 16384

noncomputable section

namespace Cert.KernelIdealProof

open Cert.KernelIdeal Cert.KernelIdeal.Gen
open Idealize.ShloMosaic
open Idealize.ShloMosaic.TcCoe
open Idealize.ShloMosaic.ValueIdx

variable {F : FTy → Type} [FloatOps F]

/-! ## Devices on the ring -/

/-- The device `t` places after `c`. -/
abbrev fwd (c : Dev nD) (t : ℕ) : Dev nD := ⟨(c.val + t) % 32, Nat.mod_lt _ (by decide)⟩
/-- The device `t` places before `c` (`t` at most 32). -/
abbrev bwd (c : Dev nD) (t : ℕ) : Dev nD := ⟨(c.val + (32 - t)) % 32, Nat.mod_lt _ (by decide)⟩

/-- A device's number is below 32. -/
theorem dev_lt (c : Dev nD) : c.val < 32 := c.isLt

/-- `t` places back and then `t` places on is where one began. -/
theorem fwd_bwd (c : Dev nD) (t : ℕ) (h : t ≤ 32) : fwd (bwd c t) t = c := by
  have := dev_lt c; exact Fin.ext (by simp only; omega)
/-- `t` places on and then `t` places back is where one began. -/
theorem bwd_fwd (c : Dev nD) (t : ℕ) (h : t ≤ 32) : bwd (fwd c t) t = c := by
  have := dev_lt c; exact Fin.ext (by simp only; omega)
/-- Going `t` places on and then `32 - t` more is going round. -/
theorem fwd_fwd (c : Dev nD) (t : ℕ) (h : t ≤ 32) : fwd (fwd c t) (32 - t) = c := by
  have := dev_lt c; exact Fin.ext (by simp only; omega)

/-! ## The memrefs -/

abbrev xM : Memref sig .tc .vmem S4096x128 .bf16 := Memref.whole cc0_stg0_0
abbrev oM : Memref sig .tc .vmem S128x2048 .f32 := Memref.whole cc0_stg1_0
abbrev wM : Memref sig .tc .hbm S4096x2048 .f32 := Memref.whole main_arg1
abbrev sM : Memref sig .tc .vmem S32x128x128 .bf16 := Memref.whole cc0_scratch0
abbrev gM : Memref sig .tc .vmem S128x4096 .bf16 := Memref.whole cc0_scratch1
abbrev bM : Memref sig .tc .vmem S2x512x2048 .f32 := Memref.whole cc0_scratch2

/-! ## The semaphores -/

/-- DMA semaphore number `k` of the pool of 72. -/
abbrev dsem (k : ℕ) : DmaSem sig := ⟨k % 72, Nat.mod_lt _ (by decide)⟩
abbrev sendS (t : ℕ) : DmaSem sig := dsem (2 + t)
abbrev recvS (t : ℕ) : DmaSem sig := dsem (34 + t)
abbrev copyS (b : ℕ) : DmaSem sig := dsem (66 + b)
abbrev locS (i : ℕ) : DmaSem sig := dsem (68 + i)
abbrev barS : Sem sig := (SemArray.scalar (sig.barrier 0 rfl) : Sems sig S_).sem

/-- One semaphore sliced out of a consecutive array of `n` from `base`, at place `t`. -/
theorem sem_of_slice {n base : ℕ} (hb : base + (⟨1, ![n]⟩ : Shape).numel ≤ 72) (t : ℕ)
    (h : ∀ a, (![t] : Fin 1 → ℕ) a + S1.size a ≤ (⟨1, ![n]⟩ : Shape).size a) (hq : S1.Squeezes S_) :
    (((SemArray.consecutive base ⟨1, ![n]⟩ hb).slice (Rect.unit (s := ⟨1, ![n]⟩) ![t] S1.size h)).squeeze S_ hq).sem = dsem (base + t) := by
  have ht : t + 1 ≤ n := h 0
  have hn : (⟨1, ![n]⟩ : Shape).numel = n := by simp [Shape.numel]
  refine Fin.ext ?_
  simp only [SemArray.sem, SemArray.ix_squeeze, SemArray.ix_slice, SemArray.consecutive]
  rw [Shape.rowMajor_val_one]
  rw [hn] at hb
  rw [Rect.emb_apply, Rect.off_unit, Rect.stride_unit, Nat.mod_eq_of_lt (by omega)]
  have h0 : ∀ j : (Rect.unit (s := ⟨1, ![n]⟩) ![t] S1.size h).shape.Idx, (j 0).val = 0 := fun j => by
    have := (j 0).isLt; change (j 0).val < 1 at this; omega
  rw [h0]; simp

/-- The send semaphore sliced out of its array at place `t` is send semaphore `t`. -/
theorem sem_send (t : ℕ) (h : ∀ a, (![t] : Fin 1 → ℕ) a + S1.size a ≤ S32.size a) (hq : S1.Squeezes S_) :
    ((cc0_scratch3.slice (Rect.unit (s := S32) ![t] S1.size h)).squeeze S_ hq).sem = sendS t := sem_of_slice _ t h hq
/-- The receive semaphore sliced out of its array at place `t` is receive semaphore `t`. -/
theorem sem_recv (t : ℕ) (h : ∀ a, (![t] : Fin 1 → ℕ) a + S1.size a ≤ S32.size a) (hq : S1.Squeezes S_) :
    ((cc0_scratch4.slice (Rect.unit (s := S32) ![t] S1.size h)).squeeze S_ hq).sem = recvS t := sem_of_slice _ t h hq
/-- The semaphore sliced at place `t` out of the two of the copies of `w` is copy semaphore `t`. -/
theorem sem_copy (t : ℕ) (h : ∀ a, (![t] : Fin 1 → ℕ) a + S1.size a ≤ S2.size a) (hq : S1.Squeezes S_) :
    ((cc0_scratch5.slice (Rect.unit (s := S2) ![t] S1.size h)).squeeze S_ hq).sem = copyS t := sem_of_slice _ t h hq
/-- The semaphore sliced at place `t` out of the four of the local copies is local semaphore `t`. -/
theorem sem_loc (t : ℕ) (h : ∀ a, (![t] : Fin 1 → ℕ) a + S1.size a ≤ S4.size a) (hq : S1.Squeezes S_) :
    ((cc0_scratch6.slice (Rect.unit (s := S4) ![t] S1.size h)).squeeze S_ hq).sem = locS t := sem_of_slice _ t h hq

/-! ## Pieces -/

/-- Slot `t` of the landing buffer. -/
def slotSet (t : ℕ) : Finset S32x128x128.Idx := Finset.univ.filter fun i => (i 0).val = t
/-- Column block `t` of the gathered buffer. -/
def gathSet (t : ℕ) : Finset S128x4096.Idx := Finset.univ.filter fun i => (i 1).val / 128 = t
/-- Row block `r` of the staged `x`. -/
def xSet (r : ℕ) : Finset S4096x128.Idx := Finset.univ.filter fun i => (i 0).val / 128 = r
/-- Row block `r` of `w`. -/
def wSet (r : ℕ) : Finset S4096x2048.Idx := Finset.univ.filter fun i => (i 0).val / 128 = r
/-- Piece `n` of the double buffer of `w`: half `n / 4` modulo 2, row block `n` modulo 4 of it. -/
def wbufSet (n : ℕ) : Finset S2x512x2048.Idx := Finset.univ.filter fun i => (i 0).val = n / 4 % 2 ∧ (i 1).val / 128 = n % 4
/-- Half `b` of the double buffer. -/
def halfSet (b : ℕ) : Finset S2x512x2048.Idx := Finset.univ.filter fun i => (i 0).val = b
/-- Columns `512 j` to `512 j + 511` of the gathered buffer. -/
def groupSet (j : ℕ) : Finset S128x4096.Idx := Finset.univ.filter fun i => (i 1).val / 512 = j

/-- An element is in slot `t` when its first index is `t`. -/
theorem mem_slotSet {t : ℕ} {i : S32x128x128.Idx} : i ∈ slotSet t ↔ (i 0).val = t := by simp [slotSet]
/-- An element is in column block `t` of the gathered buffer when its column divided by 128 is `t`. -/
theorem mem_gathSet {t : ℕ} {i : S128x4096.Idx} : i ∈ gathSet t ↔ (i 1).val / 128 = t := by simp [gathSet]
/-- An element is in row block `t` of the staged `x` when its row divided by 128 is `t`. -/
theorem mem_xSet {t : ℕ} {i : S4096x128.Idx} : i ∈ xSet t ↔ (i 0).val / 128 = t := by simp [xSet]
/-- An element is in row block `t` of `w` when its row divided by 128 is `t`. -/
theorem mem_wSet {t : ℕ} {i : S4096x2048.Idx} : i ∈ wSet t ↔ (i 0).val / 128 = t := by simp [wSet]
/-- An element is in piece `n` of the double buffer when its half is `n / 4` modulo 2 and its row divided by 128 is `n`
    modulo 4. -/
theorem mem_wbufSet {n : ℕ} {i : S2x512x2048.Idx} : i ∈ wbufSet n ↔ (i 0).val = n / 4 % 2 ∧ (i 1).val / 128 = n % 4 := by simp [wbufSet]
/-- An element is in half `t` of the double buffer when its first index is `t`. -/
theorem mem_halfSet {t : ℕ} {i : S2x512x2048.Idx} : i ∈ halfSet t ↔ (i 0).val = t := by simp [halfSet]
/-- An element is in column group `t` of the gathered buffer when its column divided by 512 is `t`. -/
theorem mem_groupSet {t : ℕ} {i : S128x4096.Idx} : i ∈ groupSet t ↔ (i 1).val / 512 = t := by simp [groupSet]

/-- A piece of the double buffer is the one eight further on: the numbering goes round the two halves. -/
theorem wbufSet_add (n : ℕ) : wbufSet (n + 8) = wbufSet n := by
  ext i; rw [mem_wbufSet, mem_wbufSet, show (n + 8) / 4 % 2 = n / 4 % 2 by omega, show (n + 8) % 4 = n % 4 by omega]

/-! ## The windows -/

abbrev slotV (t : ℕ) (h : ∀ a, (![t, 0, 0] : Fin 3 → ℕ) a + S1x128x128.size a ≤ S32x128x128.size a)
    (hs : ∀ a, (Rect.unit (s := S32x128x128) ![t, 0, 0] S1x128x128.size h).stride a = 1) (hq : S1x128x128.Squeezes S128x128) :
    Memref sig .tc .vmem S128x128 .bf16 :=
  (sM.slice (Rect.unit (s := S32x128x128) ![t, 0, 0] S1x128x128.size h) hs).squeeze S128x128 hq
abbrev wbufV (b r : ℕ) (h : ∀ a, (![b, r, 0] : Fin 3 → ℕ) a + S1x128x2048.size a ≤ S2x512x2048.size a)
    (hs : ∀ a, (Rect.unit (s := S2x512x2048) ![b, r, 0] S1x128x2048.size h).stride a = 1) (hq : S1x128x2048.Squeezes S128x2048) :
    Memref sig .tc .vmem S128x2048 .f32 :=
  (bM.slice (Rect.unit (s := S2x512x2048) ![b, r, 0] S1x128x2048.size h) hs).squeeze S128x2048 hq
abbrev gathV (k : ℕ) (h : ∀ a, (![0, k] : Fin 2 → ℕ) a + S128x128.size a ≤ S128x4096.size a)
    (hs : ∀ a, (Rect.unit (s := S128x4096) ![0, k] S128x128.size h).stride a = 1) : Memref sig .tc .vmem S128x128 .bf16 :=
  gM.slice (Rect.unit (s := S128x4096) ![0, k] S128x128.size h) hs
abbrev xV (off : Fin 2 → ℕ) (h : ∀ a, off a + S128x128.size a ≤ S4096x128.size a)
    (hs : ∀ a, (Rect.unit (s := S4096x128) off S128x128.size h).stride a = 1) : Memref sig .tc .vmem S128x128 .bf16 :=
  xM.slice (Rect.unit (s := S4096x128) off S128x128.size h) hs
abbrev wV (off : Fin 2 → ℕ) (h : ∀ a, off a + S128x2048.size a ≤ S4096x2048.size a)
    (hs : ∀ a, (Rect.unit (s := S4096x2048) off S128x2048.size h).stride a = 1) : Memref sig .tc .hbm S128x2048 .f32 :=
  wM.slice (Rect.unit (s := S4096x2048) off S128x2048.size h) hs

/-- The window at place `t` of the landing buffer covers slot `t`. -/
theorem slotV_set (t : ℕ) (h) (hs) (hq) : (slotV t h hs hq).view.set = slotSet t := by
  show (View.reshape _ _ _).set = _
  rw [View.set_reshape]
  show ((View.whole cc0_scratch0).slice _).set = _
  rw [View.set_slice_whole]
  ext (i : S32x128x128.Idx)
  rw [mem_slotSet]
  refine Rect.mem_set_unit.trans ⟨fun H => ?_, fun e a => ?_⟩
  · have h0 : t ≤ (i 0).val ∧ (i 0).val < t + 1 := H 0
    omega
  · have h1 : (i 1).val < 128 := (i 1).isLt
    have h2 : (i 2).val < 128 := (i 2).isLt
    match a with
    | 0 => exact show t ≤ (i 0).val ∧ (i 0).val < t + 1 by omega
    | 1 => exact show 0 ≤ (i 1).val ∧ (i 1).val < 0 + 128 by omega
    | 2 => exact show 0 ≤ (i 2).val ∧ (i 2).val < 0 + 128 by omega

/-- The window at half `n / 4` modulo 2 and row `128 (n mod 4)` of the double buffer covers piece `n`. -/
theorem wbufV_set (n b r : ℕ) (hb : b = n / 4 % 2) (hr : r = n % 4 * 128) (h) (hs) (hq) :
    (wbufV b r h hs hq).view.set = wbufSet n := by
  show (View.reshape _ _ _).set = _
  rw [View.set_reshape]
  show ((View.whole cc0_scratch2).slice _).set = _
  rw [View.set_slice_whole]
  ext (i : S2x512x2048.Idx)
  rw [mem_wbufSet]
  refine Rect.mem_set_unit.trans ⟨fun H => ?_, fun e a => ?_⟩
  · have h0 : b ≤ (i 0).val ∧ (i 0).val < b + 1 := H 0
    have h1 : r ≤ (i 1).val ∧ (i 1).val < r + 128 := H 1
    omega
  · have h2 : (i 2).val < 2048 := (i 2).isLt
    match a with
    | 0 => exact show b ≤ (i 0).val ∧ (i 0).val < b + 1 by omega
    | 1 => exact show r ≤ (i 1).val ∧ (i 1).val < r + 128 by omega
    | 2 => exact show 0 ≤ (i 2).val ∧ (i 2).val < 0 + 2048 by omega

/-- The window at column `128 t` of the gathered buffer covers column block `t`. -/
theorem gathV_set (t k : ℕ) (hk : k = 128 * t) (h) (hs) : (gathV k h hs).view.set = gathSet t := by
  show ((View.whole cc0_scratch1).slice _).set = _
  rw [View.set_slice_whole]
  ext (i : S128x4096.Idx)
  rw [mem_gathSet]
  refine Rect.mem_set_unit.trans ⟨fun H => ?_, fun e a => ?_⟩
  · have h1 : k ≤ (i 1).val ∧ (i 1).val < k + 128 := H 1
    omega
  · have h0 : (i 0).val < 128 := (i 0).isLt
    match a with
    | 0 => exact show 0 ≤ (i 0).val ∧ (i 0).val < 0 + 128 by omega
    | 1 => exact show k ≤ (i 1).val ∧ (i 1).val < k + 128 by omega

/-- The rows `128 r` to `128 r + 127`, whole, of an array of 4096 rows are those whose number divided by 128 is `r`. -/
theorem mem_rows {n : ℕ} (r : ℕ) (h) (i : (⟨2, ![4096, n]⟩ : Shape).Idx) :
    i ∈ (Rect.unit (s := ⟨2, ![4096, n]⟩) ![128 * r, 0] ![128, n] h).set ↔ (i 0).val / 128 = r := by
  refine Rect.mem_set_unit.trans ⟨fun H => ?_, fun e a => ?_⟩
  · have h0 : 128 * r ≤ (i 0).val ∧ (i 0).val < 128 * r + 128 := H 0
    omega
  · have h1 : (i 1).val < n := (i 1).isLt
    match a with
    | 0 => exact show 128 * r ≤ (i 0).val ∧ (i 0).val < 128 * r + 128 by omega
    | 1 => exact show 0 ≤ (i 1).val ∧ (i 1).val < 0 + n by omega

/-- The window at row `128 r` of the staged `x` covers row block `r`. -/
theorem xV_set (r : ℕ) (off : Fin 2 → ℕ) (ho : off = ![128 * r, 0]) (h) (hs) : (xV off h hs).view.set = xSet r := by
  subst ho
  show ((View.whole cc0_stg0_0).slice _).set = _
  rw [View.set_slice_whole]
  ext (i : S4096x128.Idx)
  rw [mem_xSet]
  exact mem_rows r h i

/-- The window at row `128 r` of `w` covers row block `r`. -/
theorem wV_set (r : ℕ) (off : Fin 2 → ℕ) (ho : off = ![128 * r, 0]) (h) (hs) : (wV off h hs).view.set = wSet r := by
  subst ho
  show ((View.whole main_arg1).slice _).set = _
  rw [View.set_slice_whole]
  ext (i : S4096x2048.Idx)
  rw [mem_wSet]
  exact mem_rows r h i

/-! ## Where an element of a window lies -/

/-- Element `(x, y)` of the window at place `t` of the landing buffer is element `(t, x, y)` of the buffer. -/
theorem slotV_emb (t : ℕ) (h) (hs) (hq) (x y : Fin 128) (ht : t < 32) :
    (slotV t h hs hq).view.emb (ix2 x y) = (ix3 ⟨t, ht⟩ x y : S32x128x128.Idx) := by
  show (Rect.unit (s := S32x128x128) ![t, 0, 0] S1x128x128.size h).emb (Shape.reshapeEquiv _ (ix2 x y)) = _
  rw [reshapeEquiv_ix2_1ab]
  funext a; refine Fin.ext ?_
  rw [Rect.emb_apply, Rect.off_unit, Rect.stride_unit]
  match a with
  | 0 => show t + 1 * 0 = t; omega
  | 1 => show 0 + 1 * x.val = x.val; omega
  | 2 => show 0 + 1 * y.val = y.val; omega

/-- Element `(x, y)` of the window at half `b`, row `r` of the double buffer is element `(b, r + x, y)` of the buffer. -/
theorem wbufV_emb (b r : ℕ) (h) (hs) (hq) (x : Fin 128) (y : Fin 2048) (hb : b < 2) (hr : r + x.val < 512) :
    (wbufV b r h hs hq).view.emb (ix2 x y) = (ix3 ⟨b, hb⟩ ⟨r + x.val, hr⟩ y : S2x512x2048.Idx) := by
  show (Rect.unit (s := S2x512x2048) ![b, r, 0] S1x128x2048.size h).emb (Shape.reshapeEquiv _ (ix2 x y)) = _
  rw [reshapeEquiv_ix2_1ab]
  funext a; refine Fin.ext ?_
  rw [Rect.emb_apply, Rect.off_unit, Rect.stride_unit]
  match a with
  | 0 => show b + 1 * 0 = b; omega
  | 1 => show r + 1 * x.val = r + x.val; omega
  | 2 => show 0 + 1 * y.val = y.val; omega

/-- Element `(x, y)` of the window at column `k` of the gathered buffer is element `(x, k + y)` of the buffer. -/
theorem gathV_emb (k : ℕ) (h) (hs) (x y : Fin 128) (hk : k + y.val < 4096) :
    (gathV k h hs).view.emb (ix2 x y) = (ix2 x ⟨k + y.val, hk⟩ : S128x4096.Idx) := by
  show (Rect.unit (s := S128x4096) ![0, k] S128x128.size h).emb (ix2 x y) = _
  funext a; refine Fin.ext ?_
  rw [Rect.emb_apply, Rect.off_unit, Rect.stride_unit]
  match a with
  | 0 => show 0 + 1 * x.val = x.val; omega
  | 1 => show k + 1 * y.val = k + y.val; omega

/-- Element `(x, y)` of the window at row `128 r` of the staged `x` is element `(128 r + x, y)` of it. -/
theorem xV_emb (r : ℕ) (off : Fin 2 → ℕ) (ho : off = ![128 * r, 0]) (h) (hs) (x y : Fin 128) (hr : 128 * r + x.val < 4096) :
    (xV off h hs).view.emb (ix2 x y) = (ix2 ⟨128 * r + x.val, hr⟩ y : S4096x128.Idx) := by
  subst ho
  show (Rect.unit (s := S4096x128) ![128 * r, 0] S128x128.size h).emb (ix2 x y) = _
  funext a; refine Fin.ext ?_
  rw [Rect.emb_apply, Rect.off_unit, Rect.stride_unit]
  match a with
  | 0 => show 128 * r + 1 * x.val = 128 * r + x.val; omega
  | 1 => show 0 + 1 * y.val = y.val; omega

/-- Element `(x, y)` of the window at row `128 r` of `w` is element `(128 r + x, y)` of it. -/
theorem wV_emb (r : ℕ) (off : Fin 2 → ℕ) (ho : off = ![128 * r, 0]) (h) (hs) (x : Fin 128) (y : Fin 2048) (hr : 128 * r + x.val < 4096) :
    (wV off h hs).view.emb (ix2 x y) = (ix2 ⟨128 * r + x.val, hr⟩ y : S4096x2048.Idx) := by
  subst ho
  show (Rect.unit (s := S4096x2048) ![128 * r, 0] S128x2048.size h).emb (ix2 x y) = _
  funext a; refine Fin.ext ?_
  rw [Rect.emb_apply, Rect.off_unit, Rect.stride_unit]
  match a with
  | 0 => show 128 * r + 1 * x.val = 128 * r + x.val; omega
  | 1 => show 0 + 1 * y.val = y.val; omega

/-! ## The credits -/

/-- What a block of `x` landing in a slot pays. -/
def NS : ℕ := sig.dmaCredit .tc (Kind.tc.table .vmem) cc0_scratch0.idx S128x128 .bf16
/-- What a row block of `w` landing in the double buffer pays. -/
def NW : ℕ := sig.dmaCredit .tc (Kind.tc.table .vmem) cc0_scratch2.idx S128x2048 .f32
/-- What a slot copied into the gathered buffer pays. -/
def NG : ℕ := sig.dmaCredit .tc (Kind.tc.table .vmem) cc0_scratch1.idx S128x128 .bf16

/-- A block landing in a slot pays something. -/
theorem NS_pos : 0 < NS := sig.dmaCredit_pos _ _ _ _ _ (by decide)
/-- A row block of `w` landing in the double buffer pays something. -/
theorem NW_pos : 0 < NW := sig.dmaCredit_pos _ _ _ _ _ (by decide)
/-- A slot copied into the gathered buffer pays something. -/
theorem NG_pos : 0 < NG := sig.dmaCredit_pos _ _ _ _ _ (by decide)

/-- Every slot's window pays the same. -/
theorem slotV_credit (t : ℕ) (h) (hs) (hq) : (slotV t h hs hq).view.dmaCredit = NS := rfl
/-- Every window of the double buffer pays the same. -/
theorem wbufV_credit (b r : ℕ) (h) (hs) (hq) : (wbufV b r h hs hq).view.dmaCredit = NW := rfl
/-- Every window of the gathered buffer pays the same. -/
theorem gathV_credit (k : ℕ) (h) (hs) : (gathV k h hs).view.dmaCredit = NG := rfl

end Cert.KernelIdealProof

end
-- ==== Proof.Protocol.lean ====
/-
The protocol of the all-to-all, under the rounds library (Lib/Rounds.lean), duty names natural numbers.

Device `c` holds the columns block `c` of `x`. It sends row block `fwd c s` of it to device `fwd c s`, for `s` from 1 to
31, into slot `s` of that device's landing buffer. Five families of cells:

* the barrier cell of `c`, one round: duty `s` is paid by the signal of device `fwd c s` and hands `c` that device's slot
  `s`, into which `c` will send;
* the send cell `s` of `c`, one round, one duty: the row block sent, handed back;
* the receive cell `s` of `c`, one round, one duty, paid by device `bwd c s`: slot `s` of `c`, filled;
* the copy cells `b = 0, 1` of `c`, four rounds of four duties: row block copies of `w` into half `b` of the double
  buffer. Copy number `n` (of 32) is duty `n % 4` of round `n / 8` of cell `n / 4 % 2`; it hands over the piece filled and
  the row block of `w` it read;
* the local cells `i = 0, …, 3` of `c`, up to eight rounds of one duty: local copy `t` (1 to 31), from slot `t` to column
  block `t` of the gathered buffer, is round `(t - 1) / 4` of cell `t % 4`; it hands over the block filled and the slot.
-/
module

public import proofs.«01_k».proof.Proof.Geometry
public import Mathlib.Algebra.BigOperators.Intervals

@[expose] public section

set_option maxRecDepth 16384

noncomputable section

namespace Cert.KernelIdealProof

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Finset (Ico)

variable {F : FTy → Type} [FloatOps F]

/-! ## The resource algebra: the pipeline library's copy and the rounds' -/

abbrev UB : Type := URounds (GSem nD τ sig) ℕ
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Cells -/

abbrev barCell (c : Dev nD) : GSem nD τ sig := ((c : Thread nD τ), .reg barS)
abbrev dmaCell (c : Dev nD) (q : DmaSem sig) : GSem nD τ sig := ((c : Thread nD τ), .dma q)
abbrev sendCell (c : Dev nD) (t : ℕ) : GSem nD τ sig := dmaCell c (sendS t)
abbrev recvCell (c : Dev nD) (t : ℕ) : GSem nD τ sig := dmaCell c (recvS t)
abbrev copyCell (c : Dev nD) (b : ℕ) : GSem nD τ sig := dmaCell c (copyS b)
abbrev locCell (c : Dev nD) (i : ℕ) : GSem nD τ sig := dmaCell c (locS i)

/-- The 71 cells of a device: its 70 own DMA semaphores, then the barrier semaphore. -/
abbrev ksem (k : Fin 71) : SemLoc sig := if k.val < 70 then .dma (dsem (2 + k.val)) else .reg barS
abbrev kcell (p : Dev nD × Fin 71) : GSem nD τ sig := ((p.1 : Thread nD τ), ksem p.2)

/-! ## Contents -/

section Contents

-- `X`: the staged column blocks of `x` on every device; `V`: `w` on every device
variable (X : Dev nD → (cc0_stg0_0 : Ref sig .tc).ty.Contents (Elt F)) (V : Dev nD → (main_arg1 : Ref sig .tc).ty.Contents (Elt F))

/-- What the landing buffer of `c` ends holding: slot `t` the row block `c` of device `bwd c t`'s columns of `x`. -/
def slotC (c : Dev nD) : (cc0_scratch0 : Ref sig .tc).ty.Contents (Elt F) := fun i : S32x128x128.Idx =>
  X (bwd c (i 0).val) (ix2 ⟨128 * c.val + (i 1).val, by have := dev_lt c; have h : (i 1).val < 128 := (i 1).isLt; omega⟩ (i 2) : S4096x128.Idx)

/-- What the gathered buffer of `c` ends holding: column block `t` the row block `c` of device `bwd c t`'s columns. -/
def gathC (c : Dev nD) : (cc0_scratch1 : Ref sig .tc).ty.Contents (Elt F) := fun i : S128x4096.Idx =>
  X (bwd c ((i 1).val / 128)) (ix2 ⟨128 * c.val + (i 0).val, by have := dev_lt c; have h : (i 0).val < 128 := (i 0).isLt; omega⟩
    ⟨(i 1).val % 128, Nat.mod_lt _ (by decide)⟩ : S4096x128.Idx)

/-- What the double buffer of `c` holds of group `g`: its row block `i` is row block `bwd c (4 g + i)` of `w`. -/
def wbufC (c : Dev nD) (g : ℕ) : (cc0_scratch2 : Ref sig .tc).ty.Contents (Elt F) := fun i : S2x512x2048.Idx =>
  V c (ix2 ⟨128 * (bwd c (4 * g + (i 1).val / 128)).val + (i 1).val % 128, by
    have := dev_lt (bwd c (4 * g + (i 1).val / 128)); omega⟩ (i 2) : S4096x2048.Idx)

/-! ## Pieces held -/

def slotP (c : Dev nD) (t : ℕ) (f : (cc0_scratch0 : Ref sig .tc).ty.Contents (Elt F)) : sProp 𝕄 :=
  ((c : Thread nD τ).loc cc0_scratch0) ↦[slotSet t]{fullShare} f
def gathP (c : Dev nD) (t : ℕ) (f : (cc0_scratch1 : Ref sig .tc).ty.Contents (Elt F)) : sProp 𝕄 :=
  ((c : Thread nD τ).loc cc0_scratch1) ↦[gathSet t]{fullShare} f
def wbufP (c : Dev nD) (n : ℕ) (f : (cc0_scratch2 : Ref sig .tc).ty.Contents (Elt F)) : sProp 𝕄 :=
  ((c : Thread nD τ).loc cc0_scratch2) ↦[wbufSet n]{fullShare} f
def xP (c : Dev nD) (r : Dev nD) : sProp 𝕄 :=
  ((c : Thread nD τ).loc cc0_stg0_0) ↦[xSet r.val]{fullShare} X c
def wP (c : Dev nD) (r : Dev nD) : sProp 𝕄 :=
  ((c : Thread nD τ).loc main_arg1) ↦[wSet r.val]{fullShare} V c

instance slotP_storable (c : Dev nD) (t : ℕ) (f) : BI.Storable (upEmb : UEmb _ 𝕄) (slotP (F := F) c t f) := by unfold slotP; infer_instance
instance gathP_storable (c : Dev nD) (t : ℕ) (f) : BI.Storable (upEmb : UEmb _ 𝕄) (gathP (F := F) c t f) := by unfold gathP; infer_instance
instance wbufP_storable (c : Dev nD) (t : ℕ) (f) : BI.Storable (upEmb : UEmb _ 𝕄) (wbufP (F := F) c t f) := by unfold wbufP; infer_instance
instance xP_storable (c r : Dev nD) : BI.Storable (upEmb : UEmb _ 𝕄) (xP (F := F) X c r) := by unfold xP; infer_instance
instance wP_storable (c r : Dev nD) : BI.Storable (upEmb : UEmb _ 𝕄) (wP (F := F) V c r) := by unfold wP; infer_instance

/-! ## The schedule -/

/-- The local copy that round `r` of the cell of DMA semaphore `n` receives. -/
abbrev locT (n r : ℕ) : ℕ := 4 * r + if n = 68 then 4 else n - 68

/-- The duties of round `r` of the cell of DMA semaphore `n`. -/
def dmaDuties (n r : ℕ) : Finset ℕ :=
  if n < 66 then (if r = 0 ∧ 3 ≤ n ∧ n ≠ 34 then {0} else ∅)
  else if n < 68 then (if r < 4 then Finset.range 4 else ∅)
  else if locT n r < 32 then {0} else ∅

def dmaAmount (n : ℕ) : ℕ := if n < 66 then NS else if n < 68 then NW else NG

/-- What local copy `t` hands over. -/
def locPay (c : Dev nD) (t : ℕ) : sProp 𝕄 := iprop(gathP c t (gathC X c) ∗ slotP c t (slotC X c))
/-- What copy `n` of `w` hands over. -/
def copyPay (c : Dev nD) (n : ℕ) : sProp 𝕄 := iprop(wbufP c n (wbufC V c (n / 4)) ∗ wP V c (bwd c n))
/-- What the signal of device `fwd c s` hands `c`. -/
def barPay (c : Dev nD) (s : ℕ) : sProp 𝕄 := iprop(∃ f, slotP (fwd c s) s f)

instance locPay_storable (c : Dev nD) (t : ℕ) : BI.Storable (upEmb : UEmb _ 𝕄) (locPay (F := F) X c t) := by unfold locPay; infer_instance
instance copyPay_storable (c : Dev nD) (t : ℕ) : BI.Storable (upEmb : UEmb _ 𝕄) (copyPay (F := F) V c t) := by unfold copyPay; infer_instance
instance barPay_storable (c : Dev nD) (t : ℕ) : BI.Storable (upEmb : UEmb _ 𝕄) (barPay (F := F) c t) := by unfold barPay; infer_instance

def dmaPayload (c : Dev nD) (n r d : ℕ) : sProp 𝕄 :=
  if n < 34 then xP X c (fwd c (n - 2))
  else if n < 66 then slotP c (n - 34) (slotC X c)
  else if n < 68 then copyPay V c (8 * r + 4 * (n - 66) + d)
  else locPay X c (locT n r)

/-- Every transfer pays something. -/
theorem dmaAmount_pos (n : ℕ) : 0 < dmaAmount n := by
  unfold dmaAmount; split
  · exact NS_pos
  · split
    · exact NW_pos
    · exact NG_pos

def Rd : Rounds.Schedule (GSem nD τ sig) ℕ 𝕄 where
  duties g r := match g.2 with
    | .reg _ => if r = 0 then Ico 1 32 else ∅
    | .dma q => dmaDuties q.val r
  unitless _ := False
  amount g _ _ := match g.2 with
    | .reg _ => 1
    | .dma q => dmaAmount q.val
  payload g r d := match g.2 with
    | .reg _ => barPay g.1.1 d
    | .dma q => dmaPayload X V g.1.1 q.val r d
  amount_pos g _ _ _ := by
    split
    · exact Nat.one_pos
    · exact dmaAmount_pos _

instance Rd_payload_storable (g : GSem nD τ sig) (r : ℕ) (d : ℕ) :
    BI.Storable (upEmb : UEmb _ 𝕄) ((Rd (F := F) X V).payload g r d) := by
  obtain ⟨g₁, g₂⟩ := g
  cases g₂ with
  | reg s => show BI.Storable upEmb (barPay g₁.1 d); infer_instance
  | dma q => show BI.Storable upEmb (dmaPayload X V g₁.1 q.val r d); unfold dmaPayload; (repeat' split) <;> infer_instance

variable (c : Dev nD)

/-- The duties of a barrier cell are those of the distances 1 to 31. -/
theorem duties_bar : (Rd X V).duties (barCell c) 0 = Ico 1 32 := by
  show (if 0 = 0 then Ico 1 32 else ∅) = Ico 1 32
  exact if_pos rfl
/-- Send cell `t`, from 1 to 31, has one duty in its round. -/
theorem duties_send (t : ℕ) (h₁ : 1 ≤ t) (h : t < 32) : (Rd X V).duties (sendCell c t) 0 = {0} := by
  show dmaDuties ((2 + t) % 72) 0 = {0}
  rw [Nat.mod_eq_of_lt (by omega)]; unfold dmaDuties; rw [if_pos (by omega), if_pos (by omega)]
/-- Receive cell `t`, from 1 to 31, has one duty in its round. -/
theorem duties_recv (t : ℕ) (h₁ : 1 ≤ t) (h : t < 32) : (Rd X V).duties (recvCell c t) 0 = {0} := by
  show dmaDuties ((34 + t) % 72) 0 = {0}
  rw [Nat.mod_eq_of_lt (by omega)]; unfold dmaDuties; rw [if_pos (by omega), if_pos (by omega)]
/-- Each of the four rounds of a copy cell has four duties. -/
theorem duties_copy (b r : ℕ) (h : b < 2) (hr : r < 4) : (Rd X V).duties (copyCell c b) r = Finset.range 4 := by
  show dmaDuties ((66 + b) % 72) r = _
  rw [Nat.mod_eq_of_lt (by omega)]; unfold dmaDuties; rw [if_neg (by omega), if_pos (by omega), if_pos hr]
/-- The round `(t - 1) / 4` of local cell `t % 4` is that of local copy `t`. -/
theorem locT_eq (t : ℕ) (h₁ : 1 ≤ t) : locT ((68 + t % 4) % 72) ((t - 1) / 4) = t := by
  unfold locT; split <;> omega
/-- The round of local copy `t` has one duty. -/
theorem duties_loc (t : ℕ) (h₁ : 1 ≤ t) (h : t < 32) : (Rd X V).duties (locCell c (t % 4)) ((t - 1) / 4) = {0} := by
  show dmaDuties ((68 + t % 4) % 72) _ = _
  unfold dmaDuties; rw [locT_eq t h₁, if_neg (by omega), if_neg (by omega), if_pos h]

/-- A cell's rounds are over: none is left from round 1 of a send or receive cell or the barrier's, 4 of a copy cell,
    8 (7 for the first) of a local cell. -/
theorem duties_later (k : Fin 71) (R : ℕ)
    (hR : (if k.val < 64 ∨ k.val = 70 then (if k.val = 0 ∨ k.val = 32 then 0 else 1) else if k.val < 66 then 4 else if k.val = 66 then 7 else 8) ≤ R) :
    ∀ r, R ≤ r → (Rd X V).duties (kcell (c, k)) r = ∅ := fun r hr => by
  have hk := k.isLt
  unfold kcell ksem
  by_cases h70 : k.val < 70
  · simp only [if_pos h70]
    show dmaDuties ((2 + k.val) % 72) r = ∅
    rw [Nat.mod_eq_of_lt (by omega)]; unfold dmaDuties locT
    by_cases h1 : k.val < 64
    · rw [if_pos (by omega), if_neg]
      rintro ⟨h2, h3, h4⟩
      rw [if_pos (Or.inl h1), if_neg (by omega)] at hR; omega
    · rw [if_neg (by omega)]
      rw [if_neg (by omega)] at hR
      by_cases h2 : k.val < 66
      · rw [if_pos (by omega), if_neg]; rw [if_pos h2] at hR; omega
      · rw [if_neg (by omega), if_neg]; rw [if_neg h2] at hR; split at hR <;> split <;> omega
  · simp only [if_neg h70]
    rw [if_pos (by omega), if_neg (by omega)] at hR
    exact if_neg (by omega)

/-- A signal pays a barrier cell one unit. -/
theorem amount_bar (d : ℕ) : (Rd X V).amount (barCell c) 0 d = 1 := rfl
/-- A duty of a send cell pays the credit of a block of `x`. -/
theorem amount_send (t r d : ℕ) (h : t < 32) : (Rd X V).amount (sendCell c t) r d = NS := by
  show dmaAmount ((2 + t) % 72) = NS
  rw [Nat.mod_eq_of_lt (by omega)]; exact if_pos (by omega)
/-- A duty of a receive cell pays the credit of a block of `x`. -/
theorem amount_recv (t r d : ℕ) (h : t < 32) : (Rd X V).amount (recvCell c t) r d = NS := by
  show dmaAmount ((34 + t) % 72) = NS
  rw [Nat.mod_eq_of_lt (by omega)]; exact if_pos (by omega)
/-- A duty of a copy cell pays the credit of a row block of `w`. -/
theorem amount_copy (b r d : ℕ) (h : b < 2) : (Rd X V).amount (copyCell c b) r d = NW := by
  show dmaAmount ((66 + b) % 72) = NW
  rw [Nat.mod_eq_of_lt (by omega)]; unfold dmaAmount; rw [if_neg (by omega), if_pos (by omega)]
/-- A duty of a local cell pays the credit of a slot copied. -/
theorem amount_loc (t r d : ℕ) : (Rd X V).amount (locCell c (t % 4)) r d = NG := by
  show dmaAmount ((68 + t % 4) % 72) = NG
  unfold dmaAmount; rw [if_neg (by omega), if_neg (by omega)]

/-- A barrier cell expects 31 units. -/
theorem expect_bar : (Rd X V).expect (barCell c) 0 = 31 := by
  unfold Schedule.expect Schedule.amountOf
  rw [duties_bar, Finset.sum_congr rfl fun d _ => amount_bar X V c d]; rfl
/-- A send cell expects the credit of one block of `x`. -/
theorem expect_send (t : ℕ) (h₁ : 1 ≤ t) (h : t < 32) : (Rd X V).expect (sendCell c t) 0 = NS := by
  unfold Schedule.expect Schedule.amountOf; rw [duties_send X V c t h₁ h, Finset.sum_singleton, amount_send X V c t _ _ h]
/-- A receive cell expects the credit of one block of `x`. -/
theorem expect_recv (t : ℕ) (h₁ : 1 ≤ t) (h : t < 32) : (Rd X V).expect (recvCell c t) 0 = NS := by
  unfold Schedule.expect Schedule.amountOf; rw [duties_recv X V c t h₁ h, Finset.sum_singleton, amount_recv X V c t _ _ h]
/-- A round of a copy cell expects the credits of four row blocks of `w`. -/
theorem expect_copy (b r : ℕ) (h : b < 2) (hr : r < 4) : (Rd X V).expect (copyCell c b) r = 4 * NW := by
  unfold Schedule.expect Schedule.amountOf
  rw [duties_copy X V c b r h hr, Finset.sum_congr rfl fun d _ => amount_copy X V c b r d h, Finset.sum_const, Finset.card_range, smul_eq_mul]
/-- A round of a local cell expects the credit of one slot copied. -/
theorem expect_loc (t : ℕ) (h₁ : 1 ≤ t) (h : t < 32) : (Rd X V).expect (locCell c (t % 4)) ((t - 1) / 4) = NG := by
  unfold Schedule.expect Schedule.amountOf; rw [duties_loc X V c t h₁ h, Finset.sum_singleton, amount_loc]

/-- Duty `s` of a barrier cell hands over the peer's slot `s`. -/
theorem payload_bar (s : ℕ) : (Rd X V).payload (barCell c) 0 s = barPay c s := rfl
/-- Send cell `t` hands back the row block that was sent. -/
theorem payload_send (t d : ℕ) (h : t < 32) : (Rd X V).payload (sendCell c t) 0 d = xP X c (fwd c t) := by
  show dmaPayload X V c ((2 + t) % 72) 0 d = _
  rw [Nat.mod_eq_of_lt (by omega)]; unfold dmaPayload; rw [if_pos (by omega), Nat.add_sub_cancel_left]
/-- Receive cell `t` hands over slot `t`, filled. -/
theorem payload_recv (t d : ℕ) (h : t < 32) : (Rd X V).payload (recvCell c t) 0 d = slotP c t (slotC X c) := by
  show dmaPayload X V c ((34 + t) % 72) 0 d = _
  rw [Nat.mod_eq_of_lt (by omega)]; unfold dmaPayload; rw [if_neg (by omega), if_pos (by omega), Nat.add_sub_cancel_left]
/-- Duty `i` of the round of group `g` hands over what copy `4 g + i` of `w` hands over. -/
theorem payload_copy (g i : ℕ) : (Rd X V).payload (copyCell c (g % 2)) (g / 2) i = copyPay V c (4 * g + i) := by
  show dmaPayload X V c ((66 + g % 2) % 72) (g / 2) i = _
  rw [Nat.mod_eq_of_lt (by omega)]; unfold dmaPayload
  rw [if_neg (by omega), if_neg (by omega), if_pos (by omega), show 8 * (g / 2) + 4 * (66 + g % 2 - 66) + i = 4 * g + i by omega]
/-- The round of local copy `t` hands over what that copy hands over. -/
theorem payload_loc (t d : ℕ) (h₁ : 1 ≤ t) : (Rd X V).payload (locCell c (t % 4)) ((t - 1) / 4) d = locPay X c t := by
  show dmaPayload X V c ((68 + t % 4) % 72) _ d = _
  unfold dmaPayload; rw [if_neg (by omega), if_neg (by omega), if_neg (by omega), locT_eq t h₁]

/-- All that a barrier cell hands over is the 31 peers' slots. -/
theorem rest_bar : bigSep ((Rd X V).duties (barCell c) 0 \ ∅) (fun d => (Rd X V).payload (barCell c) 0 d) = bigSep (Ico 1 32) (barPay (F := F) c) := by
  rw [Finset.sdiff_empty, duties_bar]; rfl
/-- All that send cell `t` hands over is the row block sent. -/
theorem rest_send (t : ℕ) (h₁ : 1 ≤ t) (h : t < 32) :
    bigSep ((Rd X V).duties (sendCell c t) 0 \ ∅) (fun d => (Rd X V).payload (sendCell c t) 0 d) = xP X c (fwd c t) := by
  rw [Finset.sdiff_empty, duties_send X V c t h₁ h, bigSep_singleton, payload_send X V c t _ h]
/-- All that receive cell `t` hands over is slot `t`, filled. -/
theorem rest_recv (t : ℕ) (h₁ : 1 ≤ t) (h : t < 32) :
    bigSep ((Rd X V).duties (recvCell c t) 0 \ ∅) (fun d => (Rd X V).payload (recvCell c t) 0 d) = slotP c t (slotC X c) := by
  rw [Finset.sdiff_empty, duties_recv X V c t h₁ h, bigSep_singleton, payload_recv X V c t _ h]
/-- All that the round of local copy `t` hands over is the column block filled and the slot. -/
theorem rest_loc (t : ℕ) (h₁ : 1 ≤ t) (h : t < 32) :
    bigSep ((Rd X V).duties (locCell c (t % 4)) ((t - 1) / 4) \ ∅) (fun d => (Rd X V).payload (locCell c (t % 4)) ((t - 1) / 4) d) = locPay X c t := by
  rw [Finset.sdiff_empty, duties_loc X V c t h₁ h, bigSep_singleton, payload_loc X V c t _ h₁]

/-! ## The cells' records: every cell's invariant under some name, and round 0 of every cell reached -/

def recs : sProp 𝕄 :=
  bigSep Finset.univ fun p : Dev nD × Fin 71 => iprop((∃ κ, cellInv ER (Rd X V) κ (kcell p)) ∗ reached ER (kcell p) 0)

instance recs_persistent : BI.Persistent (recs (F := F) X V) := by unfold recs; infer_instance

/-- The records give the invariant of any one cell and that its round 0 is reached. -/
theorem recs_at (p : Dev nD × Fin 71) :
    recs X V ⊢ iprop((∃ κ, cellInv ER (Rd X V) κ (kcell p)) ∗ reached ER (kcell p) 0) := by
  unfold recs; exact bigSep_elim (Finset.mem_univ p)
/-- The records give this of the cell of any of the DMA semaphores 2 to 71. -/
theorem recs_dma (k : ℕ) (h₁ : 2 ≤ k) (h : k < 72) :
    recs X V ⊢ iprop((∃ κ, cellInv ER (Rd X V) κ (dmaCell c (dsem k))) ∗ reached ER (dmaCell c (dsem k)) 0) := by
  have e : kcell (c, (⟨k - 2, by omega⟩ : Fin 71)) = dmaCell c (dsem k) := by
    unfold kcell ksem; rw [if_pos (by show k - 2 < 70; omega)]
    show dmaCell c (dsem (2 + (k - 2))) = _
    rw [show 2 + (k - 2) = k by omega]
  rw [← e]; exact recs_at X V _
/-- The records give this of a barrier cell. -/
theorem recs_bar : recs X V ⊢ iprop((∃ κ, cellInv ER (Rd X V) κ (barCell c)) ∗ reached ER (barCell c) 0) :=
  recs_at X V (c, 70)

end Contents

/-! ## What each device owes; the levels -/

/-- The credits of the transfers `k` to 31, one on each receiving device. -/
def owedSend (c : Dev nD) (k : ℕ) : CellTallies nD τ sig Unit := ∑ s ∈ Ico k 32, tallyAt (recvCell (fwd c s) s) () NS
/-- All of these and the units of the signals `k` to 31. -/
def owedSig (c : Dev nD) (k : ℕ) : CellTallies nD τ sig Unit := owedSend c 1 + ∑ s ∈ Ico k 32, tallyAt (barCell (fwd c s)) () 1

/-- Before transfer `k` a device owes its credit and what it owes after it. -/
theorem owedSend_succ (c : Dev nD) (k : ℕ) (h : k < 32) :
    owedSend c k = owedSend c (k + 1) + tallyAt (recvCell (fwd c k) k) () NS := by
  unfold owedSend; rw [Finset.sum_eq_sum_Ico_succ_bot h, add_comm]
/-- Before signal `k` a device owes its unit and what it owes after it. -/
theorem owedSig_succ (c : Dev nD) (k : ℕ) (h : k < 32) :
    owedSig c k = owedSig c (k + 1) + tallyAt (barCell (fwd c k)) () 1 := by
  unfold owedSig; rw [Finset.sum_eq_sum_Ico_succ_bot h, add_comm (tallyAt _ _ _), add_assoc]
/-- After the last transfer nothing is owed. -/
theorem owedSend_end (c : Dev nD) : owedSend c 32 = 0 := by unfold owedSend; rw [Finset.Ico_self, Finset.sum_empty]
/-- After the last signal the transfers are owed, all of them. -/
theorem owedSig_end (c : Dev nD) : owedSig c 32 = owedSend c 1 := by unfold owedSig; rw [Finset.Ico_self, Finset.sum_empty, add_zero]

def L (g : GSem nD τ sig) : Finset Unit := if g.1.2 = .tc then {()} else ∅
/-- Barrier cells at 1, receive cells at 2, every other cell at 0. -/
def lv (g : GSem nD τ sig) (_ : Unit) : ℕ := match g.2 with
  | .reg _ => 1
  | .dma q => if 34 ≤ q.val ∧ q.val < 66 then 2 else 0

/-- A cell of another kind of core is given no level. -/
theorem L_of_ne (g : GSem nD τ sig) (h : g.1.2 ≠ .tc) : L g = ∅ := if_neg h
/-- A cell of a tensor core is given one level. -/
theorem L_tc (c : Dev nD) (sm : SemLoc sig) : L ((c : Thread nD τ), sm) = {()} := if_pos rfl

/-- A sum of single tallies is positive only at one of its cells. -/
theorem sum_tally_pos {I : Finset ℕ} {cell : ℕ → GSem nD τ sig} {n : ℕ} {g : GSem nD τ sig} {u : Unit}
    (h : 0 < (∑ s ∈ I, (tallyAt (cell s) () n : CellTallies nD τ sig Unit)) g u) : ∃ s ∈ I, g = cell s := by
  rw [Finset.sum_apply, Finsupp.finset_sum_apply] at h
  obtain ⟨s, hs, hp⟩ := Finset.exists_ne_zero_of_sum_ne_zero (Nat.pos_iff_ne_zero.mp h)
  refine ⟨s, hs, ?_⟩
  rw [tallyAt_apply] at hp
  by_contra hn
  exact hp (if_neg fun e => hn e.1)

/-- A cell to which transfers from `k` on are owed is the receive cell of one of them. -/
theorem owedSend_pos {c : Dev nD} {k : ℕ} {g : GSem nD τ sig} {u : Unit} (h : 0 < owedSend c k g u) :
    ∃ s ∈ Ico k 32, g = recvCell (fwd c s) s := sum_tally_pos h
/-- A cell to which signals from `k` on or transfers are owed is the barrier cell of one of the signals or the receive cell
    of one of the transfers. -/
theorem owedSig_pos {c : Dev nD} {k : ℕ} {g : GSem nD τ sig} {u : Unit} (h : 0 < owedSig c k g u) :
    (∃ s ∈ Ico 1 32, g = recvCell (fwd c s) s) ∨ (∃ s ∈ Ico k 32, g = barCell (fwd c s)) := by
  unfold owedSig at h
  rw [Pi.add_apply, Finsupp.add_apply] at h
  rcases Nat.eq_zero_or_pos (owedSend c 1 g u) with h0 | h0
  · rw [h0, Nat.zero_add] at h; exact Or.inr (sum_tally_pos h)
  · exact Or.inl (owedSend_pos h0)

/-- A receive cell is at level 2. -/
theorem lv_recv (c : Dev nD) (t : ℕ) (h : t < 32) : lv (recvCell c t) () = 2 := by
  show (if 34 ≤ (34 + t) % 72 ∧ (34 + t) % 72 < 66 then 2 else 0) = 2
  exact if_pos (by omega)

/-- Whatever it still has to signal or send, a device may wait on a cell of level 0. -/
theorem mayWait_low (c : Dev nD) (q : DmaSem sig) (hq : ¬ (34 ≤ q.val ∧ q.val < 66)) (O : CellTallies nD τ sig Unit)
    (hO : O = owedSig c 1 ∨ O = 0) : (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases owedSig_pos hg with ⟨s, -, rfl⟩ | ⟨s, -, rfl⟩ <;> exact Finset.mem_singleton_self _)
      (fun p hp => by rw [Finset.mem_singleton.mp hp]; exact le_of_eq (if_neg hq))
      (fun g u hg => by
        rcases owedSig_pos hg with ⟨s, hs, rfl⟩ | ⟨s, -, rfl⟩
        · rw [lv_recv _ _ (Finset.mem_Ico.mp hs).2]; decide
        · exact Nat.one_pos)
  · rw [MayWait_zero]; iintro -; iempintro

/-- At its barrier wait a device owes transfers only, to receive cells, above its barrier cell. -/
theorem mayWait_bar (c : Dev nD) :
    (levAts L lv : sProp 𝕄) ⊢ MayWait (c : Thread nD τ) (.reg barS) () (owedSend c 1) :=
  MayOwe.of_cut (L := L) (lev := lv) 1 (fun p hp => by rw [Finset.mem_singleton.mp hp, L_tc]; exact Finset.mem_singleton_self _)
    (fun g u hg => by obtain ⟨s, -, rfl⟩ := owedSend_pos hg; exact Finset.mem_singleton_self _)
    (fun p hp => by rw [Finset.mem_singleton.mp hp]; exact le_refl 1)
    (fun g u hg => by
      obtain ⟨s, hs, rfl⟩ := owedSend_pos hg
      rw [lv_recv _ _ (Finset.mem_Ico.mp hs).2]; decide)

end Cert.KernelIdealProof

end
-- ==== Proof.Landing.lean ====
/-
What the transfers leave: a window written with what another window reads holds, element by element, the contents the
protocol names. And what the loads read of those contents.
-/
module

public import proofs.«01_k».proof.Proof.Protocol

@[expose] public section

set_option maxRecDepth 16384

noncomputable section

namespace Cert.KernelIdealProof

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Finset (Ico)

variable {F : FTy → Type} [FloatOps F]

local notation "𝕄" => MT nD τ sig Unit (Elt F) ℕ UU ℕ

variable (X : Dev nD → (cc0_stg0_0 : Ref sig .tc).ty.Contents (Elt F)) (V : Dev nD → (main_arg1 : Ref sig .tc).ty.Contents (Elt F))
variable (c : Dev nD)

/-- The number of the device `t` places before `c`. -/
theorem bwd_val (c : Dev nD) (t : ℕ) : (bwd c t).val = (c.val + (32 - t)) % 32 := rfl

/-! ## Elements of the windows -/

/-- An element of slot `t` is `(t, x, y)` for some `x` and `y`. -/
theorem slot_elem {t : ℕ} {i : S32x128x128.Idx} (hi : i ∈ slotSet t) (ht : t < 32) :
    ∃ x y : Fin 128, i = (ix3 ⟨t, ht⟩ x y : S32x128x128.Idx) :=
  ⟨i 1, i 2, by
    have h := mem_slotSet.mp hi
    rw [eq_ix3 i]; exact congrArg (fun z => (ix3 z (i 1) (i 2) : S32x128x128.Idx)) (Fin.ext h)⟩

/-- An element of column block `t` of the gathered buffer is `(x, 128 t + y)` for some `x` and `y`. -/
theorem gath_elem {t : ℕ} {i : S128x4096.Idx} (hi : i ∈ gathSet t) (ht : t < 32) :
    ∃ x y : Fin 128, i = (ix2 x ⟨128 * t + y.val, by omega⟩ : S128x4096.Idx) :=
  ⟨i 0, ⟨(i 1).val % 128, Nat.mod_lt _ (by decide)⟩, by
    have h := mem_gathSet.mp hi
    rw [eq_ix2 i]
    exact congrArg (fun z => (ix2 (i 0) z : S128x4096.Idx)) (Fin.ext (by show (i 1).val = 128 * t + (i 1).val % 128; omega))⟩

/-- An element of piece `n` of the double buffer is in its half at row `128 (n mod 4) + x` and column `y`, for some `x` and
    `y`. -/
theorem wbuf_elem {n : ℕ} {i : S2x512x2048.Idx} (hi : i ∈ wbufSet n) :
    ∃ (x : Fin 128) (y : Fin 2048), i = (ix3 ⟨n / 4 % 2, Nat.mod_lt _ (by decide)⟩ ⟨n % 4 * 128 + x.val, by omega⟩ y : S2x512x2048.Idx) :=
  ⟨⟨(i 1).val % 128, Nat.mod_lt _ (by decide)⟩, i 2, by
    obtain ⟨h0, h1⟩ := mem_wbufSet.mp hi
    rw [eq_ix3 i]
    exact congrArg₂ (fun z z' => (ix3 z z' (i 2) : S2x512x2048.Idx)) (Fin.ext h0)
      (Fin.ext (by show (i 1).val = n % 4 * 128 + (i 1).val % 128; omega))⟩

/-! ## Landings -/

/-- Row block `fwd c s` of device `c`'s columns of `x`, written into slot `s` of device `fwd c s`, is what the slot is to
    hold. -/
theorem land_slot (s : ℕ) (hs : s < 32) (h) (hs') (hq) (off : Fin 2 → ℕ) (ho : off = ![128 * (fwd c s).val, 0]) (hb) (hb')
    (fd : (cc0_scratch0 : Ref sig .tc).ty.Contents (Elt F)) :
    ((((fwd c s) : Thread nD τ).loc cc0_scratch0) ↦[slotSet s]{fullShare}
        ((slotV s h hs' hq).view.write (Elt F) fd ((xV off hb hb').view.read (Elt F) (X c)) Finset.univ) : sProp 𝕄)
      ⊢ slotP (fwd c s) s (slotC X (fwd c s)) := by
  unfold slotP
  refine Entails.of_eq (pointsTo_congr fun i hi => ?_)
  obtain ⟨x, y, rfl⟩ := slot_elem hi hs
  have hd := dev_lt (fwd c s)
  have e := (slotV s h hs' hq).view.write_emb_of_mem (Val := Elt F) fd ((xV off hb hb').view.read (Elt F) (X c)) (Finset.mem_univ (ix2 x y))
  rw [slotV_emb s h hs' hq x y hs] at e
  refine e.trans ?_
  rw [View.read_apply, xV_emb _ off ho hb hb' x y (by omega)]
  show X c _ = X (bwd (fwd c s) s) _
  rw [bwd_fwd c s (by omega)]

/-- Slot `t`, copied into column block `t` of the gathered buffer, is what that block is to hold. -/
theorem land_gath (t : ℕ) (ht : t < 32) (h) (hs') (hq) (k : ℕ) (hk : k = 128 * t) (hb) (hb')
    (fd : (cc0_scratch1 : Ref sig .tc).ty.Contents (Elt F)) :
    (((c : Thread nD τ).loc cc0_scratch1) ↦[gathSet t]{fullShare}
        ((gathV k hb hb').view.write (Elt F) fd ((slotV t h hs' hq).view.read (Elt F) (slotC X c)) Finset.univ) : sProp 𝕄)
      ⊢ gathP c t (gathC X c) := by
  unfold gathP
  refine Entails.of_eq (pointsTo_congr fun i hi => ?_)
  obtain ⟨x, y, rfl⟩ := gath_elem hi ht
  have e := (gathV k hb hb').view.write_emb_of_mem (Val := Elt F) fd ((slotV t h hs' hq).view.read (Elt F) (slotC X c)) (Finset.mem_univ (ix2 x y))
  have hk' : k + y.val < 4096 := by omega
  rw [gathV_emb k hb hb' x y hk'] at e
  subst hk
  refine e.trans ?_
  rw [View.read_apply, slotV_emb t h hs' hq x y ht]
  show X (bwd c t) _ = X (bwd c ((128 * t + y.val) / 128)) _
  rw [show (128 * t + y.val) / 128 = t by omega]
  exact congrArg (X (bwd c t)) (congrArg₂ (fun z z' => (ix2 z z' : S4096x128.Idx)) rfl
    (Fin.ext (by show y.val = (128 * t + y.val) % 128; omega)))

/-- Row block `bwd c n` of `w`, copied into piece `n` of the double buffer, is what that piece is to hold. -/
theorem land_wbuf (n : ℕ) (b r : ℕ) (hbn : b = n / 4 % 2) (hrn : r = n % 4 * 128) (h) (hs') (hq) (off : Fin 2 → ℕ)
    (ho : off = ![128 * (bwd c n).val, 0]) (hb) (hb') (fd : (cc0_scratch2 : Ref sig .tc).ty.Contents (Elt F)) :
    (((c : Thread nD τ).loc cc0_scratch2) ↦[wbufSet n]{fullShare}
        ((wbufV b r h hs' hq).view.write (Elt F) fd ((wV off hb hb').view.read (Elt F) (V c)) Finset.univ) : sProp 𝕄)
      ⊢ wbufP c n (wbufC V c (n / 4)) := by
  unfold wbufP
  refine Entails.of_eq (pointsTo_congr fun i hi => ?_)
  obtain ⟨x, y, rfl⟩ := wbuf_elem hi
  subst hbn hrn
  have hd := dev_lt (bwd c n)
  have e := (wbufV (n / 4 % 2) (n % 4 * 128) h hs' hq).view.write_emb_of_mem (Val := Elt F) fd ((wV off hb hb').view.read (Elt F) (V c)) (Finset.mem_univ (ix2 x y))
  rw [wbufV_emb _ _ h hs' hq x y (Nat.mod_lt _ (by decide)) (by omega)] at e
  refine e.trans ?_
  rw [View.read_apply, wV_emb _ off ho hb hb' x y (by omega)]
  show V c _ = V c _
  refine congrArg (V c) (congrArg₂ (fun z z' => (ix2 z z' : S4096x2048.Idx)) (Fin.ext ?_) rfl)
  show 128 * (bwd c n).val + x.val = 128 * (bwd c (4 * (n / 4) + (n % 4 * 128 + x.val) / 128)).val + (n % 4 * 128 + x.val) % 128
  rw [show 4 * (n / 4) + (n % 4 * 128 + x.val) / 128 = n by omega, show (n % 4 * 128 + x.val) % 128 = x.val by omega]

end Cert.KernelIdealProof

end
-- ==== Proof.Exchange.lean ====
/-
The steps of the exchange: signals, the barrier wait, the sends and, at the end, the waits for the sends. Each step is a
rule read backwards: the state before it entails the program from that step on, once the state after it entails the rest.
`R` is whatever else the device holds.
-/
module

public import proofs.«01_k».proof.Proof.Landing
public import Idealize.SL.BI.BigOpNat

@[expose] public section

set_option maxRecDepth 16384

noncomputable section

namespace Cert.KernelIdealProof

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Finset (Ico)

variable {F : FTy → Type} [FloatOps F]

local notation "𝕄" => MT nD τ sig Unit (Elt F) ℕ UU ℕ

variable (X : Dev nD → (cc0_stg0_0 : Ref sig .tc).ty.Contents (Elt F)) (V : Dev nD → (main_arg1 : Ref sig .tc).ty.Contents (Elt F))
variable (c : Dev nD)

abbrev 𝒱₀ : Variants := Variants.none

/-- Device `c` runs `p` to `Q`. -/
abbrev WP {α : Type} (p : Prog (TpuEff nD τ sig (Elt F) Λ₀ .tc) α) (Q : α → sProp 𝕄) : sProp 𝕄 :=
  wp frame (wpE (defs₀ (F := F)) 𝒱₀ (c : Thread nD τ) none) Set.univ p Q

/-- A part of the body, then the rest of it. -/
theorem WP_bind {α β : Type} {P : sProp 𝕄} {p : Prog (TpuEff nD τ sig (Elt F) Λ₀ .tc) α} {f : α → Prog (TpuEff nD τ sig (Elt F) Λ₀ .tc) β}
    {Q : β → sProp 𝕄} (h : P ⊢ WP c p fun a => WP c (f a) Q) : P ⊢ WP c (p.bind f) Q :=
  h.trans (Entails.of_eq (wp_bind _ _ _ _ _ _).symm)

/-- The end of a part. -/
theorem WP_ret {α : Type} {P : sProp 𝕄} {a : α} {Q : α → sProp 𝕄} (h : P ⊢ Q a) : P ⊢ WP c (.ret a) Q :=
  (h.trans BI.fupd_intro).trans (Entails.of_eq (wp_ret _ _ _ _ _).symm)

/-! ## The windows' elements as pieces -/

/-- The points-to of the window at place `t` of the landing buffer is slot `t` held. -/
theorem slotP_eq (t : ℕ) (h) (hs) (hq) (f) :
    (((slotV t h hs hq).view.loc (c : Thread nD τ)) ↦[(slotV t h hs hq).view.set]{fullShare} f : sProp 𝕄) = slotP c t f := by
  rw [slotV_set]; rfl
/-- The points-to of the window at column `128 t` of the gathered buffer is column block `t` held. -/
theorem gathP_eq (t k : ℕ) (hk : k = 128 * t) (h) (hs) (f) :
    (((gathV k h hs).view.loc (c : Thread nD τ)) ↦[(gathV k h hs).view.set]{fullShare} f : sProp 𝕄) = gathP c t f := by
  rw [gathV_set t k hk]; rfl
/-- The points-to of a window of the double buffer is its piece `n` held. -/
theorem wbufP_eq (n b r : ℕ) (hb : b = n / 4 % 2) (hr : r = n % 4 * 128) (h) (hs) (hq) (f) :
    (((wbufV b r h hs hq).view.loc (c : Thread nD τ)) ↦[(wbufV b r h hs hq).view.set]{fullShare} f : sProp 𝕄) = wbufP c n f := by
  rw [wbufV_set n b r hb hr]; rfl
/-- The points-to of the window of the staged `x` at device `d`'s rows is row block `d` held. -/
theorem xP_eq (d : Dev nD) (off : Fin 2 → ℕ) (ho : off = ![128 * d.val, 0]) (h) (hs) :
    (((xV off h hs).view.loc (c : Thread nD τ)) ↦[(xV off h hs).view.set]{fullShare} X c : sProp 𝕄) = xP X c d := by
  rw [xV_set d.val off ho]; rfl
/-- The points-to of the window of `w` at device `d`'s rows is row block `d` held. -/
theorem wP_eq (d : Dev nD) (off : Fin 2 → ℕ) (ho : off = ![128 * d.val, 0]) (h) (hs) :
    (((wV off h hs).view.loc (c : Thread nD τ)) ↦[(wV off h hs).view.set]{fullShare} V c : sProp 𝕄) = wP V c d := by
  rw [wV_set d.val off ho]; rfl

/-- Every window of the staged `x` pays what a slot's does. -/
theorem xV_credit (off : Fin 2 → ℕ) (h) (hs) : (xV off h hs).view.dmaCredit = NS := rfl

/-! ## States -/

/-- What every step uses: the cells' records, the levels, and what the device owes. -/
def base (O : CellTallies nD τ sig Unit) : sProp 𝕄 :=
  iprop(recs X V ∗ levAts L lv ∗ ∃ W, owes (c : Thread nD τ) O W)

/-- Before signal `k`: for each signal to come, its duty's token and the slot it hands over. -/
def sigSt (k : ℕ) : sProp 𝕄 :=
  iprop(base X V c (owedSig c k)
    ∗ bigSep (Ico k 32) fun s => iprop(dutyTok ER (barCell (fwd c s)) 0 (32 - s) ∗ ∃ f, slotP c (32 - s) f))

/-- Before send `s`: for each send to come, the slot it fills, the row block it reads and its two duties' tokens; for each
    one made, the credits of its send cell. -/
def sendSt (s : ℕ) : sProp 𝕄 :=
  iprop(base X V c (owedSend c s)
    ∗ (bigSep (Ico s 32) fun t => iprop(barPay c t ∗ xP X c (fwd c t) ∗ dutyTok ER (sendCell c t) 0 0 ∗ dutyTok ER (recvCell (fwd c t) t) 0 0))
    ∗ bigSep (Ico 1 s) fun t => cred (tallyAt (sendCell c t) () NS))

/-- Before the wait for send `f`: for each wait to come, its credits and position; for each one made, the row block back. -/
def retSt (f : ℕ) : sProp 𝕄 :=
  iprop(base X V c 0
    ∗ (bigSep (Ico f 32) fun t => iprop(cred (tallyAt (sendCell c t) () NS) ∗ atPos ER (sendCell c t) 0 ∅ 0))
    ∗ bigSep (Ico 1 f) fun t => iprop(xP X c (fwd c t) ∗ atPos ER (sendCell c t) 1 ∅ 0))

variable {X V c}
variable {α : Type} {Q : α → sProp (MT nD τ sig Unit (Elt F) ℕ UU ℕ)} {R : sProp (MT nD τ sig Unit (Elt F) ℕ UU ℕ)}

/-! ## Signals and the barrier -/

/-- Signal `k`, to the device `k` places on: it hands that device's barrier cell slot `32 - k` and moves the state to `k +
    1`. -/
theorem sig_step {k v : ℕ} {hv : v < nD} (e : v = (c.val + k) % 32) {n : ℕ}
    {kont : PUnit → Prog (TpuEff nD τ sig (Elt F) Λ₀ .tc) α}
    (H : iprop(sigSt X V c (k + 1) ∗ R) ⊢ WP c (kont ⟨⟩) Q)
    (h₁ : 1 ≤ k := by decide) (h : k < 32 := by decide) (hn : n = 1 := by rfl) :
    iprop(sigSt X V c k ∗ R) ⊢ WP c (.op (.semSignal (Dev.tc ⟨v, hv⟩) barS n) kont) Q := by
  subst hn e
  unfold sigSt base
  rw [bigSep_Ico_succ_bot h]
  iintro ⟨⟨⟨#Hrec, #Hlev, %W, HL⟩, ⟨Htok, Hslot⟩, HT⟩, HR⟩
  icases (recs_bar X V (fwd c k)) $$ Hrec with ⟨⟨%κ, Hg⟩, Hr⟩
  iapply (Rounds.wp_signal 𝒱₀ ER (Rd X V) (c : Thread nD τ) none (dst := ((fwd c k : Dev nD) : Thread nD τ)) (κ := κ) (d := 32 - k)
    (by rw [duties_bar]; exact Finset.mem_Ico.mpr ⟨by omega, by omega⟩) (amount_bar X V _ _) () (owedSig c (k + 1))
    (owedSig_succ c k h)) $$ [HL Htok Hslot Hg Hr]
  · isplitl [Hg]; · iexact Hg
    isplitl [HL]; · iexact HL
    isplitl [Htok]; · iexact Htok
    isplitl [Hslot]
    · rw [payload_bar]; unfold barPay; rw [fwd_fwd c k (by omega)]; iexact Hslot
    · iexact Hr
  iintro HL
  iapply H
  unfold sigSt base
  isplitr [HR]
  · isplitl [HL]
    · isplitr; · iexact Hrec
      isplitr; · iexact Hlev
      iexists W; iexact HL
    · iexact HT
  · iexact HR

/-- The barrier wait: after it, one slot on every other device. -/
theorem bar_step {n : ℕ} {kont : PUnit → Prog (TpuEff nD τ sig (Elt F) Λ₀ .tc) α}
    (H : iprop(base X V c (owedSend c 1) ∗ bigSep (Ico 1 32) (barPay c) ∗ atPos ER (barCell c) 1 ∅ 0 ∗ R) ⊢ WP c (kont ⟨⟩) Q) (hn : n = 31 := by rfl) :
    iprop(sigSt X V c 32 ∗ cred (tallyAt (barCell c) () 31) ∗ atPos ER (barCell c) 0 ∅ 0 ∗ R) ⊢ WP c (.op (.semWait barS n) kont) Q := by
  subst hn
  unfold sigSt base
  rw [owedSig_end]
  iintro ⟨⟨⟨#Hrec, #Hlev, %W, HL⟩, -⟩, Hc, Hat, HR⟩
  icases (recs_bar X V c) $$ Hrec with ⟨⟨%κ, Hg⟩, -⟩
  iapply (Rounds.wp_wait_rest_token 𝒱₀ ER (Rd X V) (c : Thread nD τ) none (κ := κ)
    (wpE_semWait_eq 𝒱₀ (c : Thread nD τ) none Set.univ) (Set.mem_univ _) () (by rw [expect_bar])) $$ [HL Hc Hat Hg]
  · isplitl [Hg]; · iexact Hg
    isplitl [Hc]; · iexact Hc
    isplitl [HL]; · iexact HL
    isplitr; · iapply (mayWait_bar c); iexact Hlev
    iexact Hat
  rw [rest_bar]
  iintro ⟨HL, Hat, -, Hpay⟩
  iapply H
  unfold base
  isplitl [HL]
  · isplitr; · iexact Hrec
    isplitr; · iexact Hlev
    iexists _; iexact HL
  isplitl [Hpay]; · iexact Hpay
  isplitl [Hat]; · iexact Hat
  iexact HR

/-! ## Sends -/

/-- Send `s`, to slot `s` of the device `s` places on: it moves the state to `s + 1`. -/
theorem send_step {s v : ℕ} {hv : v < nD} (e : v = (c.val + s) % 32)
    {off : Fin 2 → ℕ} {hb : _} {hb' : _} (ho : off = ![128 * (fwd c s).val, 0]) {hi : _} {his : _} {hq : _} {hsc : _}
    {sS sem : DmaSem sig} {hsrc : _} {hdst : _} {hsem : _}
    {kont : PUnit → Prog (TpuEff nD τ sig (Elt F) Λ₀ .tc) α}
    (H : iprop(sendSt X V c (s + 1) ∗ R) ⊢ WP c (kont ⟨⟩) Q) (h₁ : 1 ≤ s := by decide) (h : s < 32 := by decide)
    (hS : sS = sendS s := by exact sem_send _ _ _) (hR : sem = recvS s := by exact sem_recv _ _ _) :
    iprop(sendSt X V c s ∗ R) ⊢ WP c (.op (.enqueueDma (xV off hb hb')
      (.remote (Dev.tc ⟨v, hv⟩) (slotV s hi his hq) (.dma sS) hsc) (.dma sem) hsrc hdst hsem) kont) Q := by
  subst e hS hR
  have hd : (⟨(c.val + s) % 32, hv⟩ : Dev nD) = fwd c s := rfl
  unfold sendSt base
  rw [bigSep_Ico_succ_bot h]
  iintro ⟨⟨⟨#Hrec, #Hlev, %W, HL⟩, ⟨⟨Hslot, Hx, Ht₁, Ht₂⟩, HT⟩, Hcr⟩, HR⟩
  icases (recs_dma X V c (2 + s) (by omega) (by omega)) $$ Hrec with ⟨⟨%κ₁, Hg₁⟩, Hr₁⟩
  icases (recs_dma X V (fwd c s) (34 + s) (by omega) (by omega)) $$ Hrec with ⟨⟨%κ₂, Hg₂⟩, Hr₂⟩
  unfold barPay
  icases Hslot with ⟨%fd, Hslot⟩
  ihave Hx := (Entails.of_eq (xP_eq X c (fwd c s) off ho hb hb').symm) $$ Hx
  ihave Hslot := (Entails.of_eq (slotP_eq (fwd c s) s hi his hq fd).symm) $$ Hslot
  iapply (Rounds.wp_send_pointsTo 𝒱₀ ER (Rd X V) (c : Thread nD τ) none (c' := ((fwd c s : Dev nD) : Thread nD τ))
    (κ₁ := κ₁) (κ₂ := κ₂) (d₁ := 0) (d₂ := 0) (r₁ := 0) (r₂ := 0)
    (by rw [duties_send X V c s h₁ h]; exact Finset.mem_singleton_self _)
    (by rw [duties_recv X V (fwd c s) s h₁ h]; exact Finset.mem_singleton_self _)
    () () NS (by exact slotV_credit s hi his hq) (amount_send X V c s 0 0 h) (amount_recv X V (fwd c s) s 0 0 h)
    (owedSend c (s + 1)) (owedSend_succ c s h)
    (by rw [payload_send X V c s 0 h, xP_eq X c (fwd c s) off ho hb hb'])
    (by rw [payload_recv X V (fwd c s) s 0 h, slotV_set]; exact land_slot X c s h hi his hq off ho hb hb' fd))
    $$ [HL Hx Hslot Ht₁ Ht₂ Hg₁ Hg₂ Hr₁ Hr₂]
  · isplitl [Hg₁]; · iexact Hg₁
    isplitl [Hg₂]; · iexact Hg₂
    isplitl [Hx]; · iexact Hx
    isplitl [Hslot]; · iexact Hslot
    isplitl [HL]; · iexact HL
    isplitl [Ht₁]; · iexact Ht₁
    isplitl [Hr₁]; · iexact Hr₁
    isplitl [Ht₂]; · iexact Ht₂
    iexact Hr₂
  iintro ⟨Hc, HL⟩
  iapply H
  unfold sendSt base
  rw [bigSep_Ico_succ_top h₁]
  isplitr [HR]
  · isplitl [HL]
    · isplitr; · iexact Hrec
      isplitr; · iexact Hlev
      iexists W; iexact HL
    isplitl [HT]; · iexact HT
    isplitl [Hc]; · iexact Hc
    iexact Hcr
  · iexact HR

/-! ## The waits for the sends -/

/-- The wait for send `f`: the row block sent comes back, and the state moves to `f + 1`. -/
theorem ret_step {f : ℕ} {off : Fin 2 → ℕ} {hb : _} {hb' : _} {hi : _} {his : _} {hq : _}
    {sem : DmaSem sig} {hsrc : _} {hdst : _}
    {kont : PUnit → Prog (TpuEff nD τ sig (Elt F) Λ₀ .tc) α}
    (H : iprop(retSt X V c (f + 1) ∗ R) ⊢ WP c (kont ⟨⟩) Q) (h₁ : 1 ≤ f := by decide) (h : f < 32 := by decide)
    (hS : sem = sendS f := by exact sem_send _ _ _) :
    iprop(retSt X V c f ∗ R) ⊢ WP c (.op (.waitDma2 sem (slotV f hi his hq) (xV off hb hb') hsrc hdst) kont) Q := by
  subst hS
  unfold retSt base
  rw [bigSep_Ico_succ_bot h]
  iintro ⟨⟨⟨#Hrec, #Hlev, %W, HL⟩, ⟨⟨Hc, Hat⟩, HT⟩, Hx⟩, HR⟩
  icases (recs_dma X V c (2 + f) (by omega) (by omega)) $$ Hrec with ⟨⟨%κ, Hg⟩, -⟩
  iapply (Rounds.wp_wait_rest_token 𝒱₀ ER (Rd X V) (c : Thread nD τ) none (κ := κ)
    (wpE_waitDma2_eq 𝒱₀ (c : Thread nD τ) none Set.univ) (Set.mem_univ _) ()
    ((Nat.zero_add _).trans ((xV_credit off hb hb').trans (expect_send X V c f h₁ h).symm))) $$ [HL Hc Hat Hg]
  · isplitl [Hg]; · iexact Hg
    isplitl [Hc]; · iexact Hc
    isplitl [HL]; · iexact HL
    isplitr; · rw [MayWait_zero]; iempintro
    iexact Hat
  rw [rest_send X V c f h₁ h]
  iintro ⟨HL, Hat, -, Hpay⟩
  iapply H
  unfold retSt base
  rw [bigSep_Ico_succ_top h₁]
  isplitr [HR]
  · isplitl [HL]
    · isplitr; · iexact Hrec
      isplitr; · iexact Hlev
      iexists _; iexact HL
    isplitl [HT]; · iexact HT
    isplitr [Hx]
    · isplitl [Hpay]; · iexact Hpay
      iexact Hat
    · iexact Hx
  · iexact HR

end Cert.KernelIdealProof

end
-- ==== Proof.Groups.lean ====
/-
The steps of the pipeline of groups: the copies of `w` into the double buffer and the waits for them, the receives, the
local copies into the gathered buffer and the waits for them. Counters say how far each has gone: `a` copies of `w`
started; the pieces of group `g` waited for up to `q` of four; receives up to `r`, local copies started up to `l`, local
copies waited for up to `e` (each counted from 1, slot 0 taking no part).
-/
module

public import proofs.«01_k».proof.Proof.Exchange

@[expose] public section

set_option maxRecDepth 16384

noncomputable section

namespace Cert.KernelIdealProof

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Finset (Ico)

variable {F : FTy → Type} [FloatOps F]

local notation "𝕄" => MT nD τ sig Unit (Elt F) ℕ UU ℕ

variable (X : Dev nD → (cc0_stg0_0 : Ref sig .tc).ty.Contents (Elt F)) (V : Dev nD → (main_arg1 : Ref sig .tc).ty.Contents (Elt F))
variable (c : Dev nD)

/-- A run of numbers cut in two. -/
theorem bigSep_cut {a b d : ℕ} (h₁ : a ≤ b) (h₂ : b ≤ d) (A : ℕ → sProp 𝕄) :
    bigSep (Ico a d) A = iprop(bigSep (Ico a b) A ∗ bigSep (Ico b d) A) := by
  rw [← Finset.Ico_union_Ico_eq_Ico h₁ h₂]
  exact bigSep_union (Finset.Ico_disjoint_Ico_consecutive a b d)

/-- Four numbers in a row. -/
theorem bigSep_four (a : ℕ) (A : ℕ → sProp 𝕄) : bigSep (Ico a (a + 4)) A = iprop(A (a + 0) ∗ A (a + 1) ∗ A (a + 2) ∗ A (a + 3)) := by
  rw [bigSep_Ico_succ_bot (by omega), bigSep_Ico_succ_bot (by omega), bigSep_Ico_succ_bot (by omega), bigSep_Ico_one]; rfl
/-- What is held over the numbers below 4 is held of 0, 1, 2 and 3. -/
theorem bigSep_four' (A : ℕ → sProp 𝕄) : bigSep (Finset.range 4) A = iprop(A 0 ∗ A 1 ∗ A 2 ∗ A 3) := by
  rw [Finset.range_eq_Ico, bigSep_four 0]

/-- A family cut into a part and the rest. -/
theorem bigSep_parts {S T : Finset ℕ} (h : S ⊆ T) (A : ℕ → sProp 𝕄) : bigSep T A = iprop(bigSep S A ∗ bigSep (T \ S) A) :=
  bigSep_sdiff_split h

/-- Of the rounds reached, one. -/
theorem reached_at {S : Finset ℕ} (cell : ℕ → GSem nD τ sig) (r : ℕ → ℕ) {n : ℕ} (h : n ∈ S) :
    (bigSep S fun h => (reached ER (cell h) (r h) : sProp 𝕄)) ⊢ reached ER (cell n) (r n) := bigSep_elim h

/-- Piece `n` of the double buffer as copy `n` finds it: from copy 8 on it holds the group two before. -/
def freeW (n : ℕ) : sProp 𝕄 := iprop(∃ f, ⌜8 ≤ n → f = wbufC V c (n / 4 - 2)⌝ ∗ wbufP c n f)

/-- A free piece is a piece held, and from copy 8 on with the contents of the group two before. -/
theorem freeW_elim (n : ℕ) : freeW V c n ⊢ iprop(∃ f, ⌜8 ≤ n → f = wbufC V c (n / 4 - 2)⌝ ∗ wbufP c n f) := Entails.of_eq rfl

/-- A piece delivered to group `g` is what copy `4 g + 8 + i` is to find. -/
theorem freeW_of (g i : ℕ) (hi : i < 4) : wbufP c (4 * g + i) (wbufC V c g) ⊢ freeW V c (4 * g + 8 + i) := by
  unfold freeW wbufP
  rw [show 4 * g + 8 + i = (4 * g + i) + 8 by omega, wbufSet_add]
  iintro H
  iexists wbufC V c g
  isplitr
  · ipureintro; intro _; rw [show (4 * g + i + 8) / 4 - 2 = g by omega]
  iexact H

/-- What a copy two groups on from group `g` finds. -/
theorem freeW_at (g n : ℕ) (h : 8 ≤ n) (hn : n / 4 - 2 = g) : freeW V c n ⊢ wbufP c n (wbufC V c g) := by
  unfold freeW
  iintro ⟨%f, %hf, H⟩
  have e := hf h
  rw [hn] at e
  subst e; iexact H

/-- The copies of `w`: the row blocks and tokens of those to come, the row blocks back from the groups done, the pieces free,
    the credits of those in flight, what the open group has delivered, the other half's position, the rounds reached. -/
def wSt (a g q : ℕ) : sProp 𝕄 :=
  iprop((bigSep (Ico a 32) fun n => iprop(dutyTok ER (copyCell c (n / 4 % 2)) (n / 4 / 2) (n % 4) ∗ wP V c (bwd c n)))
    ∗ (bigSep (Ico 0 (4 * g)) fun n => wP V c (bwd c n))
    ∗ bigSep (Ico a (4 * g + 8)) (freeW V c)
    ∗ (bigSep (Ico (4 * g + q) a) fun n => cred (tallyAt (copyCell c (n / 4 % 2)) () NW))
    ∗ (∃ S : Finset ℕ, ⌜S ⊆ Finset.range 4 ∧ (q = 0 → S = ∅)⌝ ∗ atPos ER (copyCell c (g % 2)) (g / 2) S (q * NW) ∗ bigSep S fun i => copyPay V c (4 * g + i))
    ∗ atPos ER (copyCell c ((g + 1) % 2)) ((g + 1) / 2) ∅ 0
    ∗ bigSep (Ico 0 (g + 2)) fun h => reached ER (copyCell c (h % 2)) (h / 2))

/-- The receives and the local copies. -/
def locSt (r l e : ℕ) : sProp 𝕄 :=
  iprop((bigSep (Ico r 32) fun t => iprop(cred (tallyAt (recvCell c t) () NS) ∗ atPos ER (recvCell c t) 0 ∅ 0))
    ∗ (bigSep (Ico 1 r) fun t => atPos ER (recvCell c t) 1 ∅ 0)
    ∗ (bigSep (Ico l r) fun t => slotP c t (slotC X c))
    ∗ (bigSep (Ico l 32) fun t => iprop(dutyTok ER (locCell c (t % 4)) ((t - 1) / 4) 0 ∗ ∃ f, gathP c t f))
    ∗ (bigSep (Ico e l) fun t => cred (tallyAt (locCell c (t % 4)) () NG))
    ∗ (bigSep (Ico 1 e) fun t => slotP c t (slotC X c))
    ∗ (bigSep (Ico 0 e) fun t => gathP c t (gathC X c))
    ∗ (bigSep (Ico e (e + 4)) fun t => atPos ER (locCell c (t % 4)) ((t - 1) / 4) ∅ 0)
    ∗ bigSep (Ico 1 (e + 4)) fun t => reached ER (locCell c (t % 4)) ((t - 1) / 4))

def mainSt (a g q r l e : ℕ) : sProp 𝕄 := iprop(base X V c 0 ∗ wSt V c a g q ∗ locSt X c r l e)

variable {X V c}
variable {α : Type} {Q : α → sProp (MT nD τ sig Unit (Elt F) ℕ UU ℕ)} {R : sProp (MT nD τ sig Unit (Elt F) ℕ UU ℕ)}

/-! ## The copies of `w` -/

/-- Copy `a` of `w` started: its row block and a free piece are given to the transfer. -/
theorem start_step {a g q r l e : ℕ} {off : Fin 2 → ℕ} {hb : _} {hb' : _} (ho : off = ![128 * (bwd c a).val, 0])
    {b row : ℕ} {hi : _} {his : _} {hq : _} {sem : DmaSem sig} {hsrc : _} {hdst : _} {hsem : _}
    {kont : PUnit → Prog (TpuEff nD τ sig (Elt F) Λ₀ .tc) α}
    (H : iprop(mainSt X V c (a + 1) g q r l e ∗ R) ⊢ WP c (kont ⟨⟩) Q)
    (h : a < 32 := by decide) (hf : a < 4 * g + 8 := by decide) (hga : 4 * g + q ≤ a := by decide)
    (hbe : b = a / 4 % 2 := by rfl) (hre : row = a % 4 * 128 := by rfl) (hS : sem = copyS b := by exact sem_copy _ _ _) :
    iprop(mainSt X V c a g q r l e ∗ R) ⊢ WP c (.op (.enqueueDma (wV off hb hb')
      (.here (wbufV b row hi his hq)) (.dma sem) hsrc hdst hsem) kont) Q := by
  subst hS
  have hb2 : b < 2 := by omega
  have hp : (Rd X V).payload (copyCell c b) (a / 4 / 2) (a % 4) = copyPay V c a := by
    rw [hbe, payload_copy X V c (a / 4) (a % 4), show 4 * (a / 4) + a % 4 = a by omega]
  unfold mainSt wSt base
  rw [bigSep_Ico_succ_bot h, bigSep_Ico_succ_bot hf]
  iintro ⟨⟨⟨#Hrec, #Hlev, HL⟩, ⟨⟨⟨Htok, Hw⟩, HA⟩, HB, ⟨Hd, HC⟩, HD, HE, HG, #HH⟩, Hloc⟩, HR⟩
  icases (recs_dma X V c (66 + b) (by omega) (by omega)) $$ Hrec with ⟨⟨%κ, Hg⟩, -⟩
  icases (freeW_elim V c a) $$ Hd with ⟨%fd, -, Hd⟩
  ihave Hr := (reached_at (F := F) (fun h => copyCell c (h % 2)) (fun h => h / 2)
    (Finset.mem_Ico.mpr ⟨Nat.zero_le (a / 4), (show a / 4 < g + 2 by omega)⟩)) $$ HH
  ihave Hw := (Entails.of_eq (wP_eq V c (bwd c a) off ho hb hb').symm) $$ Hw
  ihave Hd := (Entails.of_eq (wbufP_eq c a b row hbe hre hi his hq fd).symm) $$ Hd
  rw [← hbe]
  iapply (Rounds.wp_copy_pointsTo 𝒱₀ ER (Rd X V) (c : Thread nD τ) none (κ := κ) (r := a / 4 / 2) (d := a % 4)
    (q := fullShare) (fs := V c) (fd := fd)
    (by rw [duties_copy X V c b _ hb2 (by omega)]; exact Finset.mem_range.mpr (Nat.mod_lt _ (by decide))) () NW
    (by exact wbufV_credit b row hi his hq) (amount_copy X V c b _ _ hb2)
    (by
      rw [hp, wP_eq V c (bwd c a) off ho hb hb', wbufV_set a b row hbe hre]
      unfold copyPay
      exact sep_mono_left (land_wbuf V c a b row hbe hre hi his hq off ho hb hb' fd)))
    $$ [Hw Hd Htok Hg Hr]
  · isplitl [Hg]; · iexact Hg
    isplitl [Hw]; · iexact Hw
    isplitl [Hd]; · iexact Hd
    isplitl [Htok]; · iexact Htok
    iexact Hr
  iintro Hc
  iapply H
  unfold mainSt wSt base
  rw [bigSep_Ico_succ_top hga]
  isplitr [HR]
  · isplitl [HL]
    · isplitr; · iexact Hrec
      isplitr; · iexact Hlev
      iexact HL
    isplitr [Hloc]
    · isplitl [HA]; · iexact HA
      isplitl [HB]; · iexact HB
      isplitl [HC]; · iexact HC
      isplitl [HD Hc]
      · rw [← hbe]; isplitl [Hc]; · iexact Hc
        iexact HD
      isplitl [HE]; · iexact HE
      isplitl [HG]; · iexact HG
      iexact HH
    · iexact Hloc
  · iexact HR

/-- A wait for one of the first three pieces of a group: some of its pieces have been delivered, which is not known. -/
theorem wait_step {a g q r l e : ℕ} {off : Fin 2 → ℕ} {hb : _} {hb' : _}
    {b row : ℕ} {hi : _} {his : _} {hq : _} {sem : DmaSem sig} {hsrc : _} {hdst : _}
    {kont : PUnit → Prog (TpuEff nD τ sig (Elt F) Λ₀ .tc) α}
    (H : iprop(mainSt X V c a g (q + 1) r l e ∗ R) ⊢ WP c (kont ⟨⟩) Q)
    (h3 : q < 3 := by decide) (hg8 : g < 8 := by decide) (hga : 4 * g + q < a := by decide)
    (hbe : b = g % 2 := by rfl) (hS : sem = copyS b := by exact sem_copy _ _ _) :
    iprop(mainSt X V c a g q r l e ∗ R) ⊢ WP c (.op (.waitDma2 sem (wV off hb hb') (wbufV b row hi his hq) hsrc hdst) kont) Q := by
  subst hS
  have hb2 : b < 2 := by omega
  unfold mainSt wSt base
  rw [bigSep_Ico_succ_bot hga, show (4 * g + q) / 4 % 2 = b by omega, ← hbe]
  iintro ⟨⟨⟨#Hrec, #Hlev, %W, HL⟩, ⟨HA, HB, HC, ⟨Hc, HD⟩, ⟨%S, %hS4, Hat, HE⟩, HG, #HH⟩, Hloc⟩, HR⟩
  icases (recs_dma X V c (66 + b) (by omega) (by omega)) $$ Hrec with ⟨⟨%κ, Hg⟩, -⟩
  iapply (Rounds.wp_wait 𝒱₀ ER (Rd X V) (c : Thread nD τ) none (κ := κ) (cr := Finsupp.single () NW)
    (wpE_waitDma2_eq 𝒱₀ (c : Thread nD τ) none Set.univ) (Set.mem_univ _) {((.dma (copyS b) : SemLoc sig), ())}
    (by rw [Util.total_single]; exact (wbufV_credit b row hi his hq).symm) (image_single_subset _ _ _)) $$ [HL Hc Hat Hg]
  · isplitl [Hg]; · iexact Hg
    isplitl [Hc]; · iexact Hc
    isplitl [HL]; · iexact HL
    isplitr; · rw [MayOwe_zero]; iempintro
    iexact Hat
  iintro %S' ⟨%hS', HL, Hat, Hpay⟩
  iapply H
  unfold mainSt wSt base
  rw [← hbe]
  isplitr [HR]
  · isplitl [HL]
    · isplitr; · iexact Hrec
      isplitr; · iexact Hlev
      iexists _; iexact HL
    isplitr [Hloc]
    · isplitl [HA]; · iexact HA
      isplitl [HB]; · iexact HB
      isplitl [HC]; · iexact HC
      isplitl [HD]; · iexact HD
      isplitl [Hat HE Hpay]
      · iexists S'
        isplitr
        · ipureintro
          have := hS'.2.1
          rw [duties_copy X V c b _ hb2 (by omega)] at this
          exact ⟨this, fun h => absurd h (Nat.succ_ne_zero q)⟩
        isplitl [Hat]
        · rw [Nat.succ_mul]; iexact Hat
        rw [bigSep_parts hS'.1]
        isplitl [HE]; · iexact HE
        rw [bigSep_congr fun i _ => (by rw [hbe]; exact (payload_copy X V c g i).symm : copyPay V c (4 * g + i) = (Rd X V).payload (copyCell c b) (g / 2) i)]
        iexact Hpay
      isplitl [HG]; · iexact HG
      iexact HH
    · iexact Hloc
  · iexact HR

/-- The wait for the last piece of a group: all four have been delivered. -/
theorem wait_last {a g r l e : ℕ} {off : Fin 2 → ℕ} {hb : _} {hb' : _}
    {b row : ℕ} {hi : _} {his : _} {hq : _} {sem : DmaSem sig} {hsrc : _} {hdst : _}
    {kont : PUnit → Prog (TpuEff nD τ sig (Elt F) Λ₀ .tc) α}
    (H : iprop(mainSt X V c a (g + 1) 0 r l e ∗ R) ⊢ WP c (kont ⟨⟩) Q)
    (hg8 : g < 8 := by decide) (hga : 4 * g + 3 < a := by decide) (hag : a ≤ 4 * g + 8 := by decide)
    (hbe : b = g % 2 := by rfl) (hS : sem = copyS b := by exact sem_copy _ _ _) :
    iprop(mainSt X V c a g 3 r l e ∗ R) ⊢ WP c (.op (.waitDma2 sem (wV off hb hb') (wbufV b row hi his hq) hsrc hdst) kont) Q := by
  subst hS
  have hb2 : b < 2 := by omega
  unfold mainSt wSt base
  rw [bigSep_Ico_succ_bot hga, show (4 * g + 3) / 4 % 2 = b by omega, ← hbe]
  iintro ⟨⟨⟨#Hrec, #Hlev, %W, HL⟩, ⟨HA, HB, HC, ⟨Hc, HD⟩, ⟨%S, %hS4, Hat, HE⟩, HG, #HH⟩, Hloc⟩, HR⟩
  icases (recs_dma X V c (66 + b) (by omega) (by omega)) $$ Hrec with ⟨⟨%κ, Hg⟩, -⟩
  iapply (Rounds.wp_wait_rest_token 𝒱₀ ER (Rd X V) (c : Thread nD τ) none (κ := κ)
    (wpE_waitDma2_eq 𝒱₀ (c : Thread nD τ) none Set.univ) (Set.mem_univ _) ()
    (by
      rw [expect_copy X V c b (g / 2) hb2 (by omega)]
      show 3 * NW + (wbufV b row hi his hq).view.dmaCredit = 4 * NW
      rw [wbufV_credit]; omega)) $$ [HL Hc Hat Hg]
  · isplitl [Hg]; · iexact Hg
    isplitl [Hc]; · iexact Hc
    isplitl [HL]; · iexact HL
    isplitr; · rw [MayWait_zero]; iempintro
    iexact Hat
  rw [duties_copy X V c b _ hb2 (by omega),
    bigSep_congr fun i (_ : i ∈ Finset.range 4 \ S) => (by rw [hbe]; exact payload_copy X V c g i : (Rd X V).payload (copyCell c b) (g / 2) i = copyPay V c (4 * g + i))]
  iintro ⟨HL, Hat, Hr, Hpay⟩
  have hpay : iprop((bigSep S fun i => copyPay V c (4 * g + i)) ∗ bigSep (Finset.range 4 \ S) fun i => copyPay V c (4 * g + i))
      ⊢ iprop((bigSep (Ico (4 * g + 8) (4 * (g + 1) + 8)) (freeW V c)) ∗ bigSep (Ico (4 * g) (4 * (g + 1))) fun n => wP V c (bwd c n)) := by
    refine (Entails.of_eq (bigSep_parts hS4.1 _).symm).trans ?_
    rw [show 4 * (g + 1) + 8 = 4 * g + 8 + 4 by omega, show 4 * (g + 1) = 4 * g + 4 by omega, bigSep_four, bigSep_four, bigSep_four']
    unfold copyPay
    have hi : ∀ i, i < 4 → (4 * g + i) / 4 = g := fun i h => by omega
    rw [hi 0 (by decide), hi 1 (by decide), hi 2 (by decide), hi 3 (by decide)]
    iintro ⟨⟨H0, K0⟩, ⟨H1, K1⟩, ⟨H2, K2⟩, ⟨H3, K3⟩⟩
    isplitl [H0 H1 H2 H3]
    · isplitl [H0]; · iapply (freeW_of V c g 0 (by decide)); iexact H0
      isplitl [H1]; · iapply (freeW_of V c g 1 (by decide)); iexact H1
      isplitl [H2]; · iapply (freeW_of V c g 2 (by decide)); iexact H2
      iapply (freeW_of V c g 3 (by decide)); iexact H3
    · isplitl [K0]; · iexact K0
      isplitl [K1]; · iexact K1
      isplitl [K2]; · iexact K2
      iexact K3
  ihave Hp := hpay $$ [HE Hpay]
  · isplitl [HE] <;> iassumption
  icases Hp with ⟨HF, HW⟩
  iapply H
  unfold mainSt wSt base
  isplitr [HR]
  · isplitl [HL]
    · isplitr; · iexact Hrec
      isplitr; · iexact Hlev
      iexists _; iexact HL
    isplitr [Hloc]
    · isplitl [HA]; · iexact HA
      isplitl [HB HW]
      · rw [bigSep_cut (Nat.zero_le (4 * g)) (show 4 * g ≤ 4 * (g + 1) by omega)]
        isplitl [HB] <;> iassumption
      isplitl [HC HF]
      · rw [bigSep_cut hag (show 4 * g + 8 ≤ 4 * (g + 1) + 8 by omega)]
        isplitl [HC] <;> iassumption
      isplitl [HD]; · iexact HD
      isplitl [HG]
      · iexists ∅
        isplitr; · ipureintro; exact ⟨Finset.empty_subset _, fun _ => rfl⟩
        isplitl [HG]; · rw [Nat.zero_mul]; iexact HG
        rw [bigSep_empty]; iempintro
      isplitl [Hat]
      · rw [show (g + 1 + 1) % 2 = b by omega, show (g + 1 + 1) / 2 = g / 2 + 1 by omega]; iexact Hat
      rw [show g + 1 + 2 = (g + 2) + 1 by omega, bigSep_Ico_succ_top (Nat.zero_le (g + 2)), show (g + 2) % 2 = b by omega,
        show (g + 2) / 2 = g / 2 + 1 by omega]
      isplitl [Hr]; · iexact Hr
      iexact HH
    · iexact Hloc
  · iexact HR

/-! ## The receives and the local copies -/

/-- The wait for the block that lands in slot `r`: the slot is held, filled. -/
theorem recv_step {a g q r l e : ℕ} {off : Fin 2 → ℕ} {hb : _} {hb' : _} {hi : _} {his : _} {hq : _} {sem : DmaSem sig} {hsrc : _} {hdst : _}
    {kont : PUnit → Prog (TpuEff nD τ sig (Elt F) Λ₀ .tc) α}
    (H : iprop(mainSt X V c a g q (r + 1) l e ∗ R) ⊢ WP c (kont ⟨⟩) Q)
    (h₁ : 1 ≤ r := by decide) (h : r < 32 := by decide) (hl : l ≤ r := by decide) (hS : sem = recvS r := by exact sem_recv _ _ _) :
    iprop(mainSt X V c a g q r l e ∗ R) ⊢ WP c (.op (.waitDma2 sem (xV off hb hb') (slotV r hi his hq) hsrc hdst) kont) Q := by
  subst hS
  unfold mainSt locSt base
  rw [bigSep_Ico_succ_bot h]
  iintro ⟨⟨⟨#Hrec, #Hlev, %W, HL⟩, Hw, ⟨⟨Hc, Hat⟩, HA⟩, HB, HC, Hrest⟩, HR⟩
  icases (recs_dma X V c (34 + r) (by omega) (by omega)) $$ Hrec with ⟨⟨%κ, Hg⟩, -⟩
  iapply (Rounds.wp_wait_rest_token 𝒱₀ ER (Rd X V) (c : Thread nD τ) none (κ := κ)
    (wpE_waitDma2_eq 𝒱₀ (c : Thread nD τ) none Set.univ) (Set.mem_univ _) ()
    ((Nat.zero_add _).trans ((slotV_credit r hi his hq).trans (expect_recv X V c r h₁ h).symm))) $$ [HL Hc Hat Hg]
  · isplitl [Hg]; · iexact Hg
    isplitl [Hc]; · iexact Hc
    isplitl [HL]; · iexact HL
    isplitr; · rw [MayWait_zero]; iempintro
    iexact Hat
  rw [rest_recv X V c r h₁ h]
  iintro ⟨HL, Hat, -, Hpay⟩
  iapply H
  unfold mainSt locSt base
  rw [bigSep_Ico_succ_top h₁, bigSep_Ico_succ_top hl]
  isplitr [HR]
  · isplitl [HL]
    · isplitr; · iexact Hrec
      isplitr; · iexact Hlev
      iexists _; iexact HL
    isplitl [Hw]; · iexact Hw
    isplitl [HA]; · iexact HA
    isplitl [Hat HB]
    · isplitl [Hat] <;> iassumption
    isplitl [Hpay HC]
    · isplitl [Hpay] <;> iassumption
    iexact Hrest
  · iexact HR

/-- Local copy `l` started, from slot `l` to column block `l` of the gathered buffer. -/
theorem copy_step {a g q r l e : ℕ} {hi : _} {his : _} {hq : _} {k : ℕ} {hb : _} {hb' : _} {i : ℕ} {sem : DmaSem sig} {hsrc : _} {hdst : _} {hsem : _}
    {kont : PUnit → Prog (TpuEff nD τ sig (Elt F) Λ₀ .tc) α}
    (H : iprop(mainSt X V c a g q r (l + 1) e ∗ R) ⊢ WP c (kont ⟨⟩) Q)
    (h₁ : 1 ≤ l := by decide) (h : l < 32 := by decide) (hl : l < r := by decide) (he : e ≤ l := by decide) (he4 : l < e + 4 := by decide)
    (hk : k = 128 * l := by rfl) (hie : i = l % 4 := by rfl) (hS : sem = locS i := by exact sem_loc _ _ _) :
    iprop(mainSt X V c a g q r l e ∗ R) ⊢ WP c (.op (.enqueueDma (slotV l hi his hq)
      (.here (gathV k hb hb')) (.dma sem) hsrc hdst hsem) kont) Q := by
  subst hS hie
  unfold mainSt locSt base
  rw [bigSep_Ico_succ_bot hl, bigSep_Ico_succ_bot h]
  iintro ⟨⟨⟨#Hrec, #Hlev, HL⟩, Hw, HA, HB, ⟨Hs, HC⟩, ⟨⟨Htok, %fd, Hd⟩, HD⟩, HE, HF, HG, HH, #HI⟩, HR⟩
  icases (recs_dma X V c (68 + l % 4) (by omega) (by omega)) $$ Hrec with ⟨⟨%κ, Hg⟩, -⟩
  ihave Hr := (reached_at (F := F) (fun t => locCell c (t % 4)) (fun t => (t - 1) / 4) (Finset.mem_Ico.mpr ⟨h₁, he4⟩)) $$ HI
  ihave Hs := (Entails.of_eq (slotP_eq c l hi his hq (slotC X c)).symm) $$ Hs
  ihave Hd := (Entails.of_eq (gathP_eq c l k hk hb hb' fd).symm) $$ Hd
  iapply (Rounds.wp_copy_pointsTo 𝒱₀ ER (Rd X V) (c : Thread nD τ) none (κ := κ) (r := (l - 1) / 4) (d := 0)
    (q := fullShare) (fs := slotC X c) (fd := fd)
    (by rw [duties_loc X V c l h₁ h]; exact Finset.mem_singleton_self _) () NG
    (by exact gathV_credit k hb hb') (amount_loc X V c l _ _)
    (by
      rw [payload_loc X V c l 0 h₁, slotP_eq c l hi his hq, gathV_set l k hk]
      unfold locPay
      exact sep_mono_left (land_gath X c l h hi his hq k hk hb hb' fd)))
    $$ [Hs Hd Htok Hg Hr]
  · isplitl [Hg]; · iexact Hg
    isplitl [Hs]; · iexact Hs
    isplitl [Hd]; · iexact Hd
    isplitl [Htok]; · iexact Htok
    iexact Hr
  iintro Hc
  iapply H
  unfold mainSt locSt base
  rw [bigSep_Ico_succ_top he]
  isplitr [HR]
  · isplitl [HL]
    · isplitr; · iexact Hrec
      isplitr; · iexact Hlev
      iexact HL
    isplitl [Hw]; · iexact Hw
    isplitl [HA]; · iexact HA
    isplitl [HB]; · iexact HB
    isplitl [HC]; · iexact HC
    isplitl [HD]; · iexact HD
    isplitl [Hc HE]
    · isplitl [Hc] <;> iassumption
    isplitl [HF]; · iexact HF
    isplitl [HG]; · iexact HG
    isplitl [HH]; · iexact HH
    iexact HI
  · iexact HR

/-- The wait for local copy `e`: the slot is back, and column block `e` is held, filled. -/
theorem loc_step {a g q r l e : ℕ} {hi : _} {his : _} {hq : _} {k : ℕ} {hb : _} {hb' : _} {i : ℕ} {sem : DmaSem sig} {hsrc : _} {hdst : _}
    {kont : PUnit → Prog (TpuEff nD τ sig (Elt F) Λ₀ .tc) α}
    (H : iprop(mainSt X V c a g q r l (e + 1) ∗ R) ⊢ WP c (kont ⟨⟩) Q)
    (h₁ : 1 ≤ e := by decide) (h : e < 32 := by decide) (hl : e < l := by decide)
    (hie : i = e % 4 := by rfl) (hS : sem = locS i := by exact sem_loc _ _ _) :
    iprop(mainSt X V c a g q r l e ∗ R) ⊢ WP c (.op (.waitDma2 sem (slotV e hi his hq) (gathV k hb hb') hsrc hdst) kont) Q := by
  subst hS hie
  unfold mainSt locSt base
  rw [bigSep_Ico_succ_bot hl, bigSep_Ico_succ_bot (show e < e + 4 by omega)]
  iintro ⟨⟨⟨#Hrec, #Hlev, %W, HL⟩, Hw, HA, HB, HC, HD, ⟨Hc, HE⟩, HF, HG, ⟨Hat, HH⟩, #HI⟩, HR⟩
  icases (recs_dma X V c (68 + e % 4) (by omega) (by omega)) $$ Hrec with ⟨⟨%κ, Hg⟩, -⟩
  iapply (Rounds.wp_wait_rest_token 𝒱₀ ER (Rd X V) (c : Thread nD τ) none (κ := κ)
    (wpE_waitDma2_eq 𝒱₀ (c : Thread nD τ) none Set.univ) (Set.mem_univ _) ()
    ((Nat.zero_add _).trans ((gathV_credit k hb hb').trans (expect_loc X V c e h₁ h).symm))) $$ [HL Hc Hat Hg]
  · isplitl [Hg]; · iexact Hg
    isplitl [Hc]; · iexact Hc
    isplitl [HL]; · iexact HL
    isplitr; · rw [MayWait_zero]; iempintro
    iexact Hat
  rw [rest_loc X V c e h₁ h]
  unfold locPay
  iintro ⟨HL, Hat, Hr, ⟨Hgp, Hsp⟩⟩
  iapply H
  unfold mainSt locSt base
  rw [show e + 1 + 4 = (e + 4) + 1 by omega, bigSep_Ico_succ_top h₁, bigSep_Ico_succ_top (Nat.zero_le e),
    bigSep_Ico_succ_top (show e + 1 ≤ e + 4 by omega), bigSep_Ico_succ_top (show 1 ≤ e + 4 by omega),
    show (e + 4) % 4 = e % 4 by omega, show (e + 4 - 1) / 4 = (e - 1) / 4 + 1 by omega]
  isplitr [HR]
  · isplitl [HL]
    · isplitr; · iexact Hrec
      isplitr; · iexact Hlev
      iexists _; iexact HL
    isplitl [Hw]; · iexact Hw
    isplitl [HA]; · iexact HA
    isplitl [HB]; · iexact HB
    isplitl [HC]; · iexact HC
    isplitl [HD]; · iexact HD
    isplitl [HE]; · iexact HE
    isplitl [Hsp HF]
    · isplitl [Hsp] <;> iassumption
    isplitl [Hgp HG]
    · isplitl [Hgp] <;> iassumption
    isplitl [Hat HH]
    · isplitl [Hat] <;> iassumption
    isplitl [Hr]; · iexact Hr
    iexact HI
  · iexact HR

/-! ## The loads -/

variable (X V c)

/-- What the load of group `g` of `w` reads: row block `i` of it is row block `bwd c (4 g + i)` of `w`. -/
def wv (g : ℕ) : Vec F S1x512x2048 .f32 := fun i =>
  V c (ix2 ⟨128 * (bwd c (4 * g + (i 1).val / 128)).val + (i 1).val % 128, by
    have := dev_lt (bwd c (4 * g + (i 1).val / 128)); omega⟩ (i 2) : S4096x2048.Idx)

/-- What the load of group `j` of the gathered buffer reads: column block `i` of it is the row block `c` of device
    `bwd c (4 j + i)`'s columns of `x`. -/
def gv (j : ℕ) : Vec F S128x512 .bf16 := fun i =>
  X (bwd c (4 * j + (i 1).val / 128)) (ix2 ⟨128 * c.val + (i 0).val, by have := dev_lt c; have h : (i 0).val < 128 := (i 0).isLt; omega⟩
    ⟨(i 1).val % 128, Nat.mod_lt _ (by decide)⟩ : S4096x128.Idx)

/-- The half of the double buffer that group `g` fills is the four pieces of the copies two groups on. -/
theorem half_cover (g : ℕ) : halfSet (g % 2) = (Ico (4 * g + 8) (4 * g + 8 + 4)).biUnion wbufSet := by
  ext i
  have h1 : (i 1).val < 512 := (i 1).isLt
  rw [mem_halfSet, Finset.mem_biUnion]
  constructor
  · intro h
    exact ⟨4 * g + 8 + (i 1).val / 128, Finset.mem_Ico.mpr ⟨by omega, by omega⟩, mem_wbufSet.mpr ⟨by omega, by omega⟩⟩
  · rintro ⟨n, hn, hi⟩
    have := Finset.mem_Ico.mp hn
    have := (mem_wbufSet.mp hi).1
    omega

/-- Column group `j` of the gathered buffer is its column blocks `4 j` to `4 j + 3`. -/
theorem group_cover (j : ℕ) : groupSet j = (Ico (4 * j) (4 * j + 4)).biUnion gathSet := by
  ext i
  rw [mem_groupSet, Finset.mem_biUnion]
  constructor
  · intro h
    exact ⟨(i 1).val / 128, Finset.mem_Ico.mpr ⟨by omega, by omega⟩, mem_gathSet.mpr rfl⟩
  · rintro ⟨n, hn, hi⟩
    have := Finset.mem_Ico.mp hn
    have := mem_gathSet.mp hi
    omega

/-- Four pieces of the double buffer in a row have no element in common. -/
theorem wbuf_disj (a : ℕ) : ∀ t ∈ Ico a (a + 4), ∀ t' ∈ Ico a (a + 4), t ≠ t' → Disjoint (wbufSet t) (wbufSet t') := by
  intro t ht t' ht' hne
  refine Finset.disjoint_left.mpr fun i hi hi' => hne ?_
  have h := Finset.mem_Ico.mp ht
  have h' := Finset.mem_Ico.mp ht'
  have h1 := (mem_wbufSet.mp hi).2
  have h2 := (mem_wbufSet.mp hi').2
  omega

/-- Different column blocks of the gathered buffer have no element in common. -/
theorem gath_disj (I : Finset ℕ) : ∀ t ∈ I, ∀ t' ∈ I, t ≠ t' → Disjoint (gathSet t) (gathSet t') := by
  intro t ht t' ht' hne
  exact Finset.disjoint_left.mpr fun i hi hi' => hne ((mem_gathSet.mp hi).symm.trans (mem_gathSet.mp hi'))

/-- Pieces of the double buffer, or blocks of the gathered buffer, held at one contents are their union held at it. -/
theorem wbuf_join (a : ℕ) (f : (cc0_scratch2 : Ref sig .tc).ty.Contents (Elt F)) :
    (bigSep (Ico a (a + 4)) fun n => wbufP c n f)
      = (((c : Thread nD τ).loc cc0_scratch2) ↦[(Ico a (a + 4)).biUnion wbufSet]{fullShare} f : sProp 𝕄) :=
  (pointsTo_biUnion (Val := Elt F) (ℓ := (c : Thread nD τ).loc cc0_scratch2) (q := fullShare) (f := f) (Ico a (a + 4)) wbufSet (wbuf_disj a)).symm

/-- Column blocks held apart at the same contents are held together. -/
theorem gath_join (I : Finset ℕ) (f : (cc0_scratch1 : Ref sig .tc).ty.Contents (Elt F)) :
    (bigSep I fun t => gathP c t f) = (((c : Thread nD τ).loc cc0_scratch1) ↦[I.biUnion gathSet]{fullShare} f : sProp 𝕄) :=
  (pointsTo_biUnion (Val := Elt F) (ℓ := (c : Thread nD τ).loc cc0_scratch1) (q := fullShare) (f := f) I gathSet (gath_disj I)).symm

/-- The four pieces of a group, delivered and not yet overwritten, are a half of the double buffer at the group's contents. -/
theorem half_eq (g : ℕ) : (bigSep (Ico (4 * g + 8) (4 * g + 8 + 4)) (freeW V c))
    = (((c : Thread nD τ).loc cc0_scratch2) ↦[halfSet (g % 2)]{fullShare} wbufC V c g : sProp 𝕄) := by
  rw [half_cover, ← wbuf_join]
  refine bigSep_congr fun n hn => ?_
  have h := Finset.mem_Ico.mp hn
  have e : 4 * g + 8 + (n - (4 * g + 8)) = n := by omega
  refine BI.equiv_iff.mp ⟨freeW_at V c g n (by omega) (by omega), ?_⟩
  have := freeW_of V c g (n - (4 * g + 8)) (by omega)
  rw [e] at this
  have e' : wbufSet (4 * g + (n - (4 * g + 8))) = wbufSet n := by rw [← wbufSet_add]; congr 1; omega
  unfold wbufP at this ⊢
  rwa [e'] at this

/-- Four column blocks of the gathered buffer are their column group, held whole. -/
theorem group_eq (j : ℕ) : (bigSep (Ico (4 * j) (4 * j + 4)) fun t => gathP c t (gathC X c))
    = (((c : Thread nD τ).loc cc0_scratch1) ↦[groupSet j]{fullShare} gathC X c : sProp 𝕄) := by
  rw [group_cover, ← gath_join]

/-- The load of the half of group `g` reads group `g` of `w`. -/
theorem read_half (g b : ℕ) (hb : b = g % 2) (hi) :
    (bM : Memref sig .tc .vmem S2x512x2048 .f32).view.readAt (Elt F) (Rect.unit (s := S2x512x2048) ![b, 0, 0] S1x512x2048.size hi).toLoadRect (wbufC V c g) = wv V c g := by
  rw [View.readAt_rect]
  funext i
  have e : (Rect.unit (s := S2x512x2048) ![b, 0, 0] S1x512x2048.size hi).emb i
      = (ix3 ⟨b, by omega⟩ (i 1) (i 2) : S2x512x2048.Idx) := by
    funext a; refine Fin.ext ?_
    rw [Rect.emb_apply, Rect.off_unit, Rect.stride_unit]
    have h0 : (i 0).val < 1 := (i 0).isLt
    match a with
    | 0 => show b + 1 * (i 0).val = b; omega
    | 1 => show 0 + 1 * (i 1).val = (i 1).val; omega
    | 2 => show 0 + 1 * (i 2).val = (i 2).val; omega
  show wbufC V c g ((Rect.unit (s := S2x512x2048) ![b, 0, 0] S1x512x2048.size hi).emb i) = _
  rw [e]; rfl

/-- The load of the 512 columns from `512 j` reads column group `j` of the gathered contents. -/
theorem read_group (j k : ℕ) (hk : k = 512 * j) (hi) :
    (gM : Memref sig .tc .vmem S128x4096 .bf16).view.readAt (Elt F) (Rect.unit (s := S128x4096) ![0, k] S128x512.size hi).toLoadRect (gathC X c) = gv X c j := by
  rw [View.readAt_rect]
  funext i
  have hi1 : k + 512 ≤ 4096 := hi 1
  have h1 : (i 1).val < 512 := (i 1).isLt
  have e : (Rect.unit (s := S128x4096) ![0, k] S128x512.size hi).emb i = (ix2 (i 0) ⟨k + (i 1).val, by omega⟩ : S128x4096.Idx) := by
    funext a; refine Fin.ext ?_
    rw [Rect.emb_apply, Rect.off_unit, Rect.stride_unit]
    match a with
    | 0 => show 0 + 1 * (i 0).val = (i 0).val; omega
    | 1 => show k + 1 * (i 1).val = k + (i 1).val; omega
  show gathC X c ((Rect.unit (s := S128x4096) ![0, k] S128x512.size hi).emb i) = _
  rw [e]
  subst hk
  show X (bwd c ((512 * j + (i 1).val) / 128)) _ = X (bwd c (4 * j + (i 1).val / 128)) _
  rw [show (512 * j + (i 1).val) / 128 = 4 * j + (i 1).val / 128 by omega]
  exact congrArg (X _) (congrArg₂ (fun z z' => (ix2 z z' : S4096x128.Idx)) rfl
    (Fin.ext (by show (512 * j + (i 1).val) % 128 = (i 1).val % 128; omega)))

variable {X V c}

/-- Group `g` of `w` loaded, once its copies have been waited for and before its half is filled again. -/
theorem loadw_step {a g r l e b : ℕ} {hi : _} {hl : _} {kont : Vec F S1x512x2048 .f32 → Prog (TpuEff nD τ sig (Elt F) Λ₀ .tc) α}
    (H : iprop(mainSt X V c a (g + 1) 0 r l e ∗ R) ⊢ WP c (kont (wv V c g)) Q)
    (hag : a ≤ 4 * g + 8 := by decide) (hb : b = g % 2 := by rfl) :
    iprop(mainSt X V c a (g + 1) 0 r l e ∗ R)
      ⊢ WP c (.op (.load bM (Rect.unit (s := S2x512x2048) ![b, 0, 0] S1x512x2048.size hi).toLoadRect hl) kont) Q := by
  unfold mainSt wSt
  rw [show 4 * (g + 1) + 8 = 4 * g + 8 + 4 by omega, bigSep_cut hag (show 4 * g + 8 ≤ 4 * g + 8 + 4 by omega), half_eq V c g, ← hb]
  iintro ⟨⟨HB, ⟨H1, H2, ⟨H3, Hh⟩, H4⟩, Hloc⟩, HR⟩
  iapply (wp_load 𝒱₀ (c : Thread nD τ) none Set.univ (m := bM) (S := halfSet b) (q := fullShare) (f := wbufC V c g) (fun i hi' => ?_)) $$ Hh
  · obtain ⟨x, hx, rfl⟩ := Finset.mem_map.mp hi'
    have h0 : b ≤ (x 0).val ∧ (x 0).val < b + 1 := Rect.mem_set_unit.mp hx 0
    exact mem_halfSet.mpr (by show (x 0).val = b; omega)
  rw [read_half V c g b hb hi]
  iintro Hh
  iapply H
  unfold mainSt wSt
  rw [show 4 * (g + 1) + 8 = 4 * g + 8 + 4 by omega, bigSep_cut hag (show 4 * g + 8 ≤ 4 * g + 8 + 4 by omega), half_eq V c g, ← hb]
  isplitr [HR]
  · isplitl [HB]; · iexact HB
    isplitr [Hloc]
    · isplitl [H1]; · iexact H1
      isplitl [H2]; · iexact H2
      isplitl [H3 Hh]
      · isplitl [H3] <;> iassumption
      iexact H4
    · iexact Hloc
  · iexact HR

/-- Column group `j` of the gathered buffer loaded, once its local copies have been waited for. -/
theorem loadg_step (j : ℕ) {a g q r l e k : ℕ} {hi : _} {hl : _} {kont : Vec F S128x512 .bf16 → Prog (TpuEff nD τ sig (Elt F) Λ₀ .tc) α}
    (H : iprop(mainSt X V c a g q r l e ∗ R) ⊢ WP c (kont (gv X c j)) Q)
    (hje : 4 * j + 4 ≤ e := by decide) (hk : k = 512 * j := by rfl) :
    iprop(mainSt X V c a g q r l e ∗ R)
      ⊢ WP c (.op (.load gM (Rect.unit (s := S128x4096) ![0, k] S128x512.size hi).toLoadRect hl) kont) Q := by
  unfold mainSt locSt
  rw [bigSep_cut (Nat.zero_le (4 * j)) (show 4 * j ≤ e by omega), bigSep_cut (show 4 * j ≤ 4 * j + 4 by omega) hje, group_eq X c j]
  iintro ⟨⟨HB, Hw, H1, H2, H3, H4, H5, H6, ⟨H7, Hh, H8⟩, H9⟩, HR⟩
  iapply (wp_load 𝒱₀ (c : Thread nD τ) none Set.univ (m := gM) (S := groupSet j) (q := fullShare) (f := gathC X c) (fun i hi' => ?_)) $$ Hh
  · obtain ⟨x, hx, rfl⟩ := Finset.mem_map.mp hi'
    have h0 : k ≤ (x 1).val ∧ (x 1).val < k + 512 := Rect.mem_set_unit.mp hx 1
    exact mem_groupSet.mpr (by show (x 1).val / 512 = j; omega)
  rw [read_group X c j k hk hi]
  iintro Hh
  iapply H
  unfold mainSt locSt
  rw [bigSep_cut (Nat.zero_le (4 * j)) (show 4 * j ≤ e by omega), bigSep_cut (show 4 * j ≤ 4 * j + 4 by omega) hje, group_eq X c j]
  isplitr [HR]
  · isplitl [HB]; · iexact HB
    isplitl [Hw]; · iexact Hw
    isplitl [H1]; · iexact H1
    isplitl [H2]; · iexact H2
    isplitl [H3]; · iexact H3
    isplitl [H4]; · iexact H4
    isplitl [H5]; · iexact H5
    isplitl [H6]; · iexact H6
    isplitl [H7 Hh H8]
    · isplitl [H7]; · iexact H7
      isplitl [Hh] <;> iassumption
    iexact H9
  · iexact HR

end Cert.KernelIdealProof

end
-- ==== Proof.Ends.lean ====
/-
The device's own block, between the barrier and the sends, and the store of the output: steps of the body that touch one
buffer each.
-/
module

public import proofs.«01_k».proof.Proof.Groups

@[expose] public section

set_option maxRecDepth 16384

noncomputable section

namespace Cert.KernelIdealProof

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Finset (Ico)

variable {F : FTy → Type} [FloatOps F]

local notation "𝕄" => MT nD τ sig Unit (Elt F) ℕ UU ℕ

variable (X : Dev nD → (cc0_stg0_0 : Ref sig .tc).ty.Contents (Elt F)) (V : Dev nD → (main_arg1 : Ref sig .tc).ty.Contents (Elt F))
variable (c : Dev nD)

/-- What a device reads of its own columns of `x`: its own row block. -/
def own : Vec F S128x128 .bf16 := fun i =>
  X c (ix2 ⟨128 * c.val + (i 0).val, by have := dev_lt c; have h : (i 0).val < 128 := (i 0).isLt; omega⟩ (i 1) : S4096x128.Idx)

/-- No places after a device is the device. -/
theorem fwd_zero : fwd c 0 = c := by
  have := dev_lt c; exact Fin.ext (by simp only; omega)
/-- No places before a device is the device. -/
theorem bwd_zero : bwd c 0 = c := by
  have := dev_lt c; exact Fin.ext (by simp only; omega)

/-- The load at a device's own rows of the staged `x` reads its own row block. -/
theorem read_own (off : Fin 2 → ℕ) (ho : off = ![128 * c.val, 0]) (hi) :
    (xM : Memref sig .tc .vmem S4096x128 .bf16).view.readAt (Elt F) (Rect.unit (s := S4096x128) off S128x128.size hi).toLoadRect (X c) = own X c := by
  rw [View.readAt_rect]
  funext i
  subst ho
  have h0 : (i 0).val < 128 := (i 0).isLt
  have hc := dev_lt c
  have e : (Rect.unit (s := S4096x128) ![128 * c.val, 0] S128x128.size hi).emb i = (ix2 ⟨128 * c.val + (i 0).val, by omega⟩ (i 1) : S4096x128.Idx) := by
    funext a; refine Fin.ext ?_
    rw [Rect.emb_apply, Rect.off_unit, Rect.stride_unit]
    match a with
    | 0 => show 128 * c.val + 1 * (i 0).val = 128 * c.val + (i 0).val; omega
    | 1 => show 0 + 1 * (i 1).val = (i 1).val; omega
  show X c ((Rect.unit (s := S4096x128) ![128 * c.val, 0] S128x128.size hi).emb i) = _
  rw [e]; rfl

/-- The two casts to the same shape change nothing. -/
theorem pay1_eq (v : Vec F S128x128 .bf16) : k0_pay1 v = v := by
  unfold k0_pay1; dsimp only; rw [shapeCast_self, shapeCast_self]

/-- The own block, stored in column block 0 of the gathered buffer, is what that block is to hold. -/
theorem land_own (hi) (f : (cc0_scratch1 : Ref sig .tc).ty.Contents (Elt F)) :
    (((c : Thread nD τ).loc cc0_scratch1) ↦[gathSet 0]{fullShare}
        ((gM.access (Rect.unit (s := S128x4096) ![0, 0] S128x128.size hi)).write (Elt F) f (k0_pay1 (own X c)) Finset.univ) : sProp 𝕄)
      ⊢ gathP c 0 (gathC X c) := by
  unfold gathP
  refine Entails.of_eq (pointsTo_congr fun i hi' => ?_)
  obtain ⟨x, y, rfl⟩ := gath_elem hi' (by decide)
  have e := (gM.access (Rect.unit (s := S128x4096) ![0, 0] S128x128.size hi)).write_emb_of_mem (Val := Elt F) f (k0_pay1 (own X c)) (Finset.mem_univ (ix2 x y))
  have e' : (gM.access (Rect.unit (s := S128x4096) ![0, 0] S128x128.size hi)).emb (ix2 x y) = (ix2 x ⟨128 * 0 + y.val, by omega⟩ : S128x4096.Idx) :=
    gathV_emb 0 hi (fun _ => rfl) x y (by omega)
  rw [e'] at e
  refine e.trans ?_
  rw [pay1_eq]
  show X c _ = X (bwd c ((128 * 0 + y.val) / 128)) _
  rw [show (128 * 0 + y.val) / 128 = 0 by omega, bwd_zero]
  exact congrArg (X c) (congrArg₂ (fun z z' => (ix2 z z' : S4096x128.Idx)) rfl
    (Fin.ext (by show y.val = (128 * 0 + y.val) % 128; omega)))

variable {X V c} {α : Type} {Q : α → sProp (MT nD τ sig Unit (Elt F) ℕ UU ℕ)} {R : sProp (MT nD τ sig Unit (Elt F) ℕ UU ℕ)}

/-- Asked for its number, device `c` is told `c`. -/
theorem dev_step {P : sProp 𝕄} {kont : Dev nD → Prog (TpuEff nD τ sig (Elt F) Λ₀ .tc) α} (H : P ⊢ WP c (kont c) Q) :
    P ⊢ WP c (.op .deviceId kont) Q := H.trans (Entails.of_eq (wp_deviceId 𝒱₀ (c : Thread nD τ) none Set.univ).symm)

/-- A device's own row block of its columns of `x` loaded. -/
theorem own_step {off : Fin 2 → ℕ} (ho : off = ![128 * c.val, 0]) {hi : _} {hl : _} {kont : Vec F S128x128 .bf16 → Prog (TpuEff nD τ sig (Elt F) Λ₀ .tc) α}
    (H : iprop(xP X c c ∗ R) ⊢ WP c (kont (own X c)) Q) :
    iprop(xP X c c ∗ R) ⊢ WP c (.op (.load xM (Rect.unit (s := S4096x128) off S128x128.size hi).toLoadRect hl) kont) Q := by
  rw [← read_own X c off ho hi] at H
  subst ho
  iintro ⟨Hx, HR⟩
  unfold xP
  iapply (wp_load 𝒱₀ (c : Thread nD τ) none Set.univ (m := xM) (S := xSet c.val) (q := fullShare) (f := X c) (fun i hi' => ?_)) $$ Hx
  · obtain ⟨x, hx, rfl⟩ := Finset.mem_map.mp hi'
    have h0 : 128 * c.val ≤ (x 0).val ∧ (x 0).val < 128 * c.val + 128 := Rect.mem_set_unit.mp hx 0
    exact mem_xSet.mpr (by show (x 0).val / 128 = c.val; omega)
  iintro Hx
  iapply H
  unfold xP
  isplitl [Hx]; · iexact Hx
  iexact HR

/-- The window of the store into the gathered buffer lies in column block 0. -/
theorem first_sub (hi) : (gM.access (Rect.unit (s := S128x4096) ![0, 0] S128x128.size hi)).set ⊆ gathSet 0 := by
  rw [← gathV_set 0 0 rfl hi (fun _ => rfl)]

/-- The block's place is read before it is written; what is read is not used. -/
theorem first_load_step {hi : _} {hl : _} {kont : Vec F S128x128 .bf16 → Prog (TpuEff nD τ sig (Elt F) Λ₀ .tc) α}
    (H : ∀ v, iprop((∃ f, gathP c 0 f) ∗ R) ⊢ WP c (kont v) Q) :
    iprop((∃ f, gathP c 0 f) ∗ R) ⊢ WP c (.op (.load gM (Rect.unit (s := S128x4096) ![0, 0] S128x128.size hi).toLoadRect hl) kont) Q := by
  iintro ⟨⟨%f, Hg⟩, HR⟩
  unfold gathP
  iapply (wp_load 𝒱₀ (c : Thread nD τ) none Set.univ (m := gM) (S := gathSet 0) (q := fullShare) (f := f) (fun i hi' => ?_)) $$ Hg
  · obtain ⟨x, hx, rfl⟩ := Finset.mem_map.mp hi'
    have h0 : 0 ≤ (x 1).val ∧ (x 1).val < 0 + 128 := Rect.mem_set_unit.mp hx 1
    exact mem_gathSet.mpr (by show (x 1).val / 128 = 0; omega)
  iintro Hg
  iapply (H _)
  unfold gathP
  isplitl [Hg]
  · iexists f; iexact Hg
  iexact HR

/-- The device's own row block stored: column block 0 of the gathered buffer is filled. -/
theorem first_store_step {hi : _} {hx : _} {hm : _} {kont : PUnit → Prog (TpuEff nD τ sig (Elt F) Λ₀ .tc) α}
    (H : iprop(gathP c 0 (gathC X c) ∗ R) ⊢ WP c (kont ⟨⟩) Q) :
    iprop((∃ f, gathP c 0 f) ∗ R)
      ⊢ WP c (.op (.store gM (Rect.unit (s := S128x4096) ![0, 0] S128x128.size hi) (k0_pay1 (own X c)) Finset.univ hx hm) kont) Q := by
  iintro ⟨⟨%f, Hg⟩, HR⟩
  iapply (wp_store 𝒱₀ (c : Thread nD τ) none Set.univ (m := gM) (r := Rect.unit (s := S128x4096) ![0, 0] S128x128.size hi) (Mk := Finset.univ)
    (S := gathSet 0) (f := f) (first_sub hi)) $$ [Hg]
  · unfold gathP; iexact Hg
  iintro Hg
  iapply H
  isplitl [Hg]
  · iapply (land_own X c hi f); iexact Hg
  iexact HR

/-- The output buffer of a device, at some contents or at `f`. -/
def outP (c : Dev nD) (f : (cc0_stg1_0 : Ref sig .tc).ty.Contents (Elt F)) : sProp 𝕄 := ((c : Thread nD τ).loc cc0_stg1_0) ↦{fullShare} f

/-- The output buffer loaded, whatever it holds. -/
theorem out_load_step {hi : _} {hl : _} {kont : Vec F S128x2048 .f32 → Prog (TpuEff nD τ sig (Elt F) Λ₀ .tc) α}
    (H : ∀ v, iprop((∃ f, outP c f) ∗ R) ⊢ WP c (kont v) Q) :
    iprop((∃ f, outP c f) ∗ R) ⊢ WP c (.op (.load oM (Rect.unit (s := S128x2048) ![0, 0] S128x2048.size hi).toLoadRect hl) kont) Q := by
  iintro ⟨⟨%f, Hg⟩, HR⟩
  unfold outP
  iapply (wp_load 𝒱₀ (c : Thread nD τ) none Set.univ (m := oM) (Finset.subset_univ _)) $$ Hg
  iintro Hg
  iapply (H _)
  unfold outP
  isplitl [Hg]
  · iexists f; iexact Hg
  iexact HR

/-- The output block stored: the output buffer holds it. -/
theorem out_store_step {hi : _} {hx : _} {hm : _} {v : Vec F S128x2048 .f32} {kont : PUnit → Prog (TpuEff nD τ sig (Elt F) Λ₀ .tc) α}
    (H : iprop(outP c v ∗ R) ⊢ WP c (kont ⟨⟩) Q) :
    iprop((∃ f, outP c f) ∗ R)
      ⊢ WP c (.op (.store oM (Rect.unit (s := S128x2048) ![0, 0] S128x2048.size hi) v Finset.univ hx hm) kont) Q := by
  iintro ⟨⟨%f, Hg⟩, HR⟩
  iapply (wp_store 𝒱₀ (c : Thread nD τ) none Set.univ (m := oM) (r := Rect.unit (s := S128x2048) ![0, 0] S128x2048.size hi) (Mk := Finset.univ)
    (f := f) (Finset.subset_univ _)) $$ [Hg]
  · unfold outP; iexact Hg
  iintro Hg
  ihave Hg := (Entails.of_eq (congrArg (fun z => (((c : Thread nD τ).loc cc0_stg1_0) ↦{fullShare} z : sProp 𝕄))
    (Memref.write_access_unit_zero_univ (Elt F) cc0_stg1_0 (off := ![0, 0]) (by funext a; match a with | 0 => rfl | 1 => rfl) hi f v))) $$ Hg
  iapply H
  unfold outP
  isplitl [Hg]; · iexact Hg
  iexact HR

end Cert.KernelIdealProof

end
-- ==== Proof.ExchangeParts.lean ====
/-
The parts of the body that signal and send, and those that wait for the sends: what each one takes a device from and to.
Every part is stated backwards, as the steps are: what holds after it, with the rest of what the device holds beside it, is
to give what is asked of the part's result.
-/
module

public import proofs.«01_k».proof.Proof.Ends

@[expose] public section

set_option maxRecDepth 16384

noncomputable section

namespace Cert.KernelIdealProof

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Finset (Ico)

variable {F : FTy → Type} [FloatOps F]

local notation "𝕄" => MT nD τ sig Unit (Elt F) ℕ UU ℕ

variable {X : Dev nD → (cc0_stg0_0 : Ref sig .tc).ty.Contents (Elt F)} {V : Dev nD → (main_arg1 : Ref sig .tc).ty.Contents (Elt F)}
variable {c : Dev nD} {R : sProp (MT nD τ sig Unit (Elt F) ℕ UU ℕ)} {v₁ v₂ v₃ : BitVec 32} {acc : FVec F S128x2048 .f32}

/-- What a part returns, asserted. -/
abbrev Post (F : FTy → Type) [FloatOps F] (α : Type) := α → sProp (MT nD τ sig Unit (Elt F) ℕ UU ℕ)

/-- A part of the body over the kernel's six buffers and four semaphore arrays. -/
abbrev onBufs {β : Sort _} (p : (arg0 : Memref sig .tc .vmem S4096x128 .bf16) → arg0.IsWhole → (arg1 : Memref sig .tc .hbm S4096x2048 .f32) → arg1.IsWhole →
    (arg2 : Memref sig .tc .vmem S128x2048 .f32) → arg2.IsWhole → (arg3 : Memref sig .tc .vmem S32x128x128 .bf16) → arg3.IsWhole →
    (arg4 : Memref sig .tc .vmem S128x4096 .bf16) → arg4.IsWhole → (arg5 : Memref sig .tc .vmem S2x512x2048 .f32) → arg5.IsWhole →
    DmaSems sig S32 → DmaSems sig S32 → DmaSems sig S2 → DmaSems sig S4 → β) : β :=
  p xM (Memref.isWhole_whole _) wM (Memref.isWhole_whole _) oM (Memref.isWhole_whole _) sM (Memref.isWhole_whole _) gM (Memref.isWhole_whole _)
    bM (Memref.isWhole_whole _) cc0_scratch3 cc0_scratch4 cc0_scratch5 cc0_scratch6

/-! ## The signals -/

/-- Part 1: the device asks for its number, and makes signals 1 to 5. -/
theorem part1 {Q : Post F (Σ' (d0 : Dev nD) (v2 : BitVec 32) (v3 : Sems sig S_) (v24 : BitVec 32), BitVec 32)} (H : ∀ u₁ u₂ u₃, iprop(sigSt X V c 6 ∗ R) ⊢ Q ⟨c, u₁, (SemArray.scalar (sig.barrier 0 rfl)), u₂, u₃⟩) :
    iprop(sigSt X V c 1 ∗ R) ⊢ WP c (onBufs k0_part1) Q :=
  dev_step <| sig_step (k0_dev1_eq c) <| sig_step (k0_dev2_eq c) <| sig_step (k0_dev3_eq c) <| sig_step (k0_dev4_eq c) <|
    sig_step (k0_dev5_eq c) <| WP_ret c (H _ _ _)

/-- Part 2: signals 6 to 11. -/
theorem part2 {Q : Post F (Σ' (v48 : BitVec 32), BitVec 32)} (H : ∀ u₁ u₂, iprop(sigSt X V c 12 ∗ R) ⊢ Q ⟨u₁, u₂⟩) :
    iprop(sigSt X V c 6 ∗ R) ⊢ WP c (onBufs k0_part2 c v₁ (SemArray.scalar (sig.barrier 0 rfl)) v₂ v₃) Q :=
  sig_step (k0_dev6_eq c) <| sig_step (k0_dev7_eq c) <| sig_step (k0_dev8_eq c) <| sig_step (k0_dev9_eq c) <| sig_step (k0_dev10_eq c) <|
    sig_step (k0_dev11_eq c) <| WP_ret c (H _ _)

/-- Part 3: signals 12 to 17. -/
theorem part3 {Q : Post F (Σ' (v72 : BitVec 32), BitVec 32)} (H : ∀ u₁ u₂, iprop(sigSt X V c 18 ∗ R) ⊢ Q ⟨u₁, u₂⟩) :
    iprop(sigSt X V c 12 ∗ R) ⊢ WP c (onBufs k0_part3 c v₁ (SemArray.scalar (sig.barrier 0 rfl)) v₂ v₃) Q :=
  sig_step (k0_dev12_eq c) <| sig_step (k0_dev13_eq c) <| sig_step (k0_dev14_eq c) <| sig_step (k0_dev15_eq c) <|
    sig_step (k0_dev16_eq c) <| sig_step (k0_dev17_eq c) <| WP_ret c (H _ _)

/-- Part 4: signals 18 to 23. -/
theorem part4 {Q : Post F (Σ' (v96 : BitVec 32), BitVec 32)} (H : ∀ u₁ u₂, iprop(sigSt X V c 24 ∗ R) ⊢ Q ⟨u₁, u₂⟩) :
    iprop(sigSt X V c 18 ∗ R) ⊢ WP c (onBufs k0_part4 c v₁ (SemArray.scalar (sig.barrier 0 rfl)) v₂ v₃) Q :=
  sig_step (k0_dev18_eq c) <| sig_step (k0_dev19_eq c) <| sig_step (k0_dev20_eq c) <| sig_step (k0_dev21_eq c) <|
    sig_step (k0_dev22_eq c) <| sig_step (k0_dev23_eq c) <| WP_ret c (H _ _)

/-- Part 5: signals 24 to 29. -/
theorem part5 {Q : Post F (Σ' (v120 : BitVec 32), BitVec 32)} (H : ∀ u₁ u₂, iprop(sigSt X V c 30 ∗ R) ⊢ Q ⟨u₁, u₂⟩) :
    iprop(sigSt X V c 24 ∗ R) ⊢ WP c (onBufs k0_part5 c v₁ (SemArray.scalar (sig.barrier 0 rfl)) v₂ v₃) Q :=
  sig_step (k0_dev24_eq c) <| sig_step (k0_dev25_eq c) <| sig_step (k0_dev26_eq c) <| sig_step (k0_dev27_eq c) <|
    sig_step (k0_dev28_eq c) <| sig_step (k0_dev29_eq c) <| WP_ret c (H _ _)

/-! ## The sends, after the first -/

/-- Part 7: sends 2 and 3. -/
theorem part7 {Q : Post F (PUnit)} (H : iprop(sendSt X V c 4 ∗ R) ⊢ Q ⟨⟩) :
    iprop(sendSt X V c 2 ∗ R) ⊢ WP c (onBufs k0_part7 c v₁ v₂) Q :=
  send_step (k0_dev33_eq c) (k0_off2_eq c 1) <| send_step (k0_dev34_eq c) (k0_off2_eq c 2) <| WP_ret c H

/-- Part 8: sends 4 to 6. -/
theorem part8 {Q : Post F (BitVec 32)} (H : ∀ u, iprop(sendSt X V c 7 ∗ R) ⊢ Q u) :
    iprop(sendSt X V c 4 ∗ R) ⊢ WP c (onBufs k0_part8 c v₁) Q :=
  send_step (k0_dev35_eq c) (k0_off2_eq c 3) <| send_step (k0_dev36_eq c) (k0_off2_eq c 4) <| send_step (k0_dev37_eq c) (k0_off2_eq c 5) <|
    WP_ret c (H _)

/-- Part 9: sends 7 and 8. -/
theorem part9 {Q : Post F (PUnit)} (H : iprop(sendSt X V c 9 ∗ R) ⊢ Q ⟨⟩) :
    iprop(sendSt X V c 7 ∗ R) ⊢ WP c (onBufs k0_part9 c v₁ v₂) Q :=
  send_step (k0_dev38_eq c) (k0_off2_eq c 6) <| send_step (k0_dev39_eq c) (k0_off2_eq c 7) <| WP_ret c H

/-- Part 10: sends 9 to 11. -/
theorem part10 {Q : Post F (BitVec 32)} (H : ∀ u, iprop(sendSt X V c 12 ∗ R) ⊢ Q u) :
    iprop(sendSt X V c 9 ∗ R) ⊢ WP c (onBufs k0_part10 c v₁) Q :=
  send_step (k0_dev40_eq c) (k0_off2_eq c 8) <| send_step (k0_dev41_eq c) (k0_off2_eq c 9) <|
    send_step (k0_dev42_eq c) (k0_off2_eq c 10) <| WP_ret c (H _)

/-- Part 11: sends 12 and 13. -/
theorem part11 {Q : Post F (PUnit)} (H : iprop(sendSt X V c 14 ∗ R) ⊢ Q ⟨⟩) :
    iprop(sendSt X V c 12 ∗ R) ⊢ WP c (onBufs k0_part11 c v₁ v₂) Q :=
  send_step (k0_dev43_eq c) (k0_off2_eq c 11) <| send_step (k0_dev44_eq c) (k0_off2_eq c 12) <| WP_ret c H

/-- Part 12: sends 14 to 16. -/
theorem part12 {Q : Post F (BitVec 32)} (H : ∀ u, iprop(sendSt X V c 17 ∗ R) ⊢ Q u) :
    iprop(sendSt X V c 14 ∗ R) ⊢ WP c (onBufs k0_part12 c v₁) Q :=
  send_step (k0_dev45_eq c) (k0_off2_eq c 13) <| send_step (k0_dev46_eq c) (k0_off2_eq c 14) <|
    send_step (k0_dev47_eq c) (k0_off2_eq c 15) <| WP_ret c (H _)

/-- Part 13: sends 17 and 18. -/
theorem part13 {Q : Post F (PUnit)} (H : iprop(sendSt X V c 19 ∗ R) ⊢ Q ⟨⟩) :
    iprop(sendSt X V c 17 ∗ R) ⊢ WP c (onBufs k0_part13 c v₁ v₂) Q :=
  send_step (k0_dev48_eq c) (k0_off2_eq c 16) <| send_step (k0_dev49_eq c) (k0_off2_eq c 17) <| WP_ret c H

/-- Part 14: sends 19 to 21. -/
theorem part14 {Q : Post F (BitVec 32)} (H : ∀ u, iprop(sendSt X V c 22 ∗ R) ⊢ Q u) :
    iprop(sendSt X V c 19 ∗ R) ⊢ WP c (onBufs k0_part14 c v₁) Q :=
  send_step (k0_dev50_eq c) (k0_off2_eq c 18) <| send_step (k0_dev51_eq c) (k0_off2_eq c 19) <|
    send_step (k0_dev52_eq c) (k0_off2_eq c 20) <| WP_ret c (H _)

/-- Part 15: sends 22 and 23. -/
theorem part15 {Q : Post F (PUnit)} (H : iprop(sendSt X V c 24 ∗ R) ⊢ Q ⟨⟩) :
    iprop(sendSt X V c 22 ∗ R) ⊢ WP c (onBufs k0_part15 c v₁ v₂) Q :=
  send_step (k0_dev53_eq c) (k0_off2_eq c 21) <| send_step (k0_dev54_eq c) (k0_off2_eq c 22) <| WP_ret c H

/-- Part 16: sends 24 to 26. -/
theorem part16 {Q : Post F (BitVec 32)} (H : ∀ u, iprop(sendSt X V c 27 ∗ R) ⊢ Q u) :
    iprop(sendSt X V c 24 ∗ R) ⊢ WP c (onBufs k0_part16 c v₁) Q :=
  send_step (k0_dev55_eq c) (k0_off2_eq c 23) <| send_step (k0_dev56_eq c) (k0_off2_eq c 24) <|
    send_step (k0_dev57_eq c) (k0_off2_eq c 25) <| WP_ret c (H _)

/-- Part 17: sends 27 and 28. -/
theorem part17 {Q : Post F (PUnit)} (H : iprop(sendSt X V c 29 ∗ R) ⊢ Q ⟨⟩) :
    iprop(sendSt X V c 27 ∗ R) ⊢ WP c (onBufs k0_part17 c v₁ v₂) Q :=
  send_step (k0_dev58_eq c) (k0_off2_eq c 26) <| send_step (k0_dev59_eq c) (k0_off2_eq c 27) <| WP_ret c H

/-- Part 18: sends 29 to 31. -/
theorem part18 {Q : Post F (BitVec 32)} (H : ∀ u, iprop(sendSt X V c 32 ∗ R) ⊢ Q u) :
    iprop(sendSt X V c 29 ∗ R) ⊢ WP c (onBufs k0_part18 c v₁) Q :=
  send_step (k0_dev60_eq c) (k0_off2_eq c 28) <| send_step (k0_dev61_eq c) (k0_off2_eq c 29) <|
    send_step (k0_dev62_eq c) (k0_off2_eq c 30) <| WP_ret c (H _)

/-! ## The waits for the sends, after the first two and before the last two -/

/-- Part 58: the waits for sends 3 to 6. -/
theorem part58 {Q : Post F (PUnit)} (H : iprop(retSt X V c 7 ∗ R) ⊢ Q ⟨⟩) :
    iprop(retSt X V c 3 ∗ R) ⊢ WP c (onBufs k0_part58 c) Q :=
  ret_step <| ret_step <| ret_step <| ret_step <| WP_ret c H

/-- Part 59: the waits for sends 7 to 11. -/
theorem part59 {Q : Post F (PUnit)} (H : iprop(retSt X V c 12 ∗ R) ⊢ Q ⟨⟩) :
    iprop(retSt X V c 7 ∗ R) ⊢ WP c (onBufs k0_part59 c) Q :=
  ret_step <| ret_step <| ret_step <| ret_step <| ret_step <| WP_ret c H

/-- Part 60: the waits for sends 12 to 15. -/
theorem part60 {Q : Post F (PUnit)} (H : iprop(retSt X V c 16 ∗ R) ⊢ Q ⟨⟩) :
    iprop(retSt X V c 12 ∗ R) ⊢ WP c (onBufs k0_part60 c) Q :=
  ret_step <| ret_step <| ret_step <| ret_step <| WP_ret c H

/-- Part 61: the waits for sends 16 to 20. -/
theorem part61 {Q : Post F (PUnit)} (H : iprop(retSt X V c 21 ∗ R) ⊢ Q ⟨⟩) :
    iprop(retSt X V c 16 ∗ R) ⊢ WP c (onBufs k0_part61 c) Q :=
  ret_step <| ret_step <| ret_step <| ret_step <| ret_step <| WP_ret c H

/-- Part 62: the waits for sends 21 to 25. -/
theorem part62 {Q : Post F (PUnit)} (H : iprop(retSt X V c 26 ∗ R) ⊢ Q ⟨⟩) :
    iprop(retSt X V c 21 ∗ R) ⊢ WP c (onBufs k0_part62 c) Q :=
  ret_step <| ret_step <| ret_step <| ret_step <| ret_step <| WP_ret c H

/-- Part 63: the waits for sends 26 to 29. -/
theorem part63 {Q : Post F (PUnit)} (H : iprop(retSt X V c 30 ∗ R) ⊢ Q ⟨⟩) :
    iprop(retSt X V c 26 ∗ R) ⊢ WP c (onBufs k0_part63 c) Q :=
  ret_step <| ret_step <| ret_step <| ret_step <| WP_ret c H

end Cert.KernelIdealProof

end
-- ==== Proof.GroupParts.lean ====
/-
The parts of the body between the sends and the store of the output: the copies of `w`, the receives, the copies into the
gathered buffer, and the products, group by group. The six numbers of a state count what has been done: copies of `w` started,
groups waited for, copies of the group in hand waited for, and one more than the slots received, copied on and waited for.
-/
module

public import proofs.«01_k».proof.Proof.ExchangeParts

@[expose] public section

set_option maxRecDepth 16384

noncomputable section

namespace Cert.KernelIdealProof

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Finset (Ico)

variable {F : FTy → Type} [FloatOps F]

local notation "𝕄" => MT nD τ sig Unit (Elt F) ℕ UU ℕ

variable {X : Dev nD → (cc0_stg0_0 : Ref sig .tc).ty.Contents (Elt F)} {V : Dev nD → (main_arg1 : Ref sig .tc).ty.Contents (Elt F)}
variable {c : Dev nD} {R : sProp (MT nD τ sig Unit (Elt F) ℕ UU ℕ)} {v₁ v₂ v₃ : BitVec 32} {acc : FVec F S128x2048 .f32}

/-- Part 19: copies 0 to 2 of `w` started. -/
theorem part19 {Q : Post F (PUnit)} (H : iprop(mainSt X V c 3 0 0 1 1 1 ∗ R) ⊢ Q ⟨⟩) :
    iprop(mainSt X V c 0 0 0 1 1 1 ∗ R) ⊢ WP c (onBufs k0_part19 c v₁ v₂) Q :=
  start_step (k0_off3_eq c 31) <| start_step (k0_off3_eq c 30) <| start_step (k0_off3_eq c 29) <| WP_ret c H

/-- Part 20: copies 3 to 6 of `w` started, and the sum begins at zero. -/
theorem part20 {Q : Post F (Σ' (v539 : FVec F S128x2048 .f32) (v564 : BitVec 32), BitVec 32)} (H : ∀ u₁ u₂, iprop(mainSt X V c 7 0 0 1 1 1 ∗ R) ⊢ Q ⟨k0_pay2, u₁, u₂⟩) :
    iprop(mainSt X V c 3 0 0 1 1 1 ∗ R) ⊢ WP c (onBufs k0_part20 c v₁) Q :=
  start_step (k0_off3_eq c 28) <| start_step (k0_off3_eq c 27) <| start_step (k0_off3_eq c 26) <| start_step (k0_off3_eq c 25) <|
    WP_ret c (H _ _)

/-- Part 21: copy 7 of `w` started, slot 1 waited for and slot 1 copied on. -/
theorem part21 {Q : Post F (PUnit)} (H : iprop(mainSt X V c 8 0 0 2 2 1 ∗ R) ⊢ Q ⟨⟩) :
    iprop(mainSt X V c 7 0 0 1 1 1 ∗ R) ⊢ WP c (onBufs k0_part21 c v₁ v₂) Q :=
  start_step (k0_off3_eq c 24) <| recv_step <| copy_step <| WP_ret c H

/-- Part 22: slots 2 and 3 waited for, slots 2 and 3 copied on and the first of the four waits for group 0 of `w`. -/
theorem part22 {Q : Post F (PUnit)} (H : iprop(mainSt X V c 8 0 1 4 4 1 ∗ R) ⊢ Q ⟨⟩) :
    iprop(mainSt X V c 8 0 0 2 2 1 ∗ R) ⊢ WP c (onBufs k0_part22 c) Q :=
  recv_step <| copy_step <| recv_step <| copy_step <| wait_step <| WP_ret c H

/-- Part 23: the last three of the four waits for group 0 of `w` and local copies 1 and 2 waited for. -/
theorem part23 {Q : Post F (PUnit)} (H : iprop(mainSt X V c 8 1 0 4 4 3 ∗ R) ⊢ Q ⟨⟩) :
    iprop(mainSt X V c 8 0 1 4 4 1 ∗ R) ⊢ WP c (onBufs k0_part23 c) Q :=
  wait_step <| wait_step <| wait_last <| loc_step <| loc_step <| WP_ret c H

/-- Part 24: local copy 3 waited for, the product of group 0 added and copies 8 and 9 of `w` started. -/
theorem part24 {Q : Post F (FVec F S128x2048 .f32)} (H : iprop(mainSt X V c 10 1 0 4 4 4 ∗ R) ⊢ Q (k0_pay3 acc (wv V c 0) (gv X c 0))) :
    iprop(mainSt X V c 8 1 0 4 4 3 ∗ R) ⊢ WP c (onBufs k0_part24 c v₁ acc) Q :=
  loc_step <| loadw_step <| loadg_step 0 <| start_step (k0_off3_eq c 23) <| start_step (k0_off3_eq c 22) <| WP_ret c H

/-- Part 25: copies 10 and 11 of `w` started, slot 4 waited for and slot 4 copied on. -/
theorem part25 {Q : Post F (BitVec 32)} (H : ∀ u, iprop(mainSt X V c 12 1 0 5 5 4 ∗ R) ⊢ Q u) :
    iprop(mainSt X V c 10 1 0 4 4 4 ∗ R) ⊢ WP c (onBufs k0_part25 c v₁) Q :=
  start_step (k0_off3_eq c 21) <| start_step (k0_off3_eq c 20) <| recv_step <| copy_step <| WP_ret c (H _)

/-- Part 26: slots 5 and 6 waited for and slots 5 and 6 copied on. -/
theorem part26 {Q : Post F (BitVec 32)} (H : ∀ u, iprop(mainSt X V c 12 1 0 7 7 4 ∗ R) ⊢ Q u) :
    iprop(mainSt X V c 12 1 0 5 5 4 ∗ R) ⊢ WP c (onBufs k0_part26 v₁) Q :=
  recv_step <| copy_step <| recv_step <| copy_step <| WP_ret c (H _)

/-- Part 27: slot 7 waited for, slot 7 copied on and the first three of the four waits for group 1 of `w`. -/
theorem part27 {Q : Post F (PUnit)} (H : iprop(mainSt X V c 12 1 3 8 8 4 ∗ R) ⊢ Q ⟨⟩) :
    iprop(mainSt X V c 12 1 0 7 7 4 ∗ R) ⊢ WP c (onBufs k0_part27 c v₁) Q :=
  recv_step <| copy_step <| wait_step <| wait_step <| wait_step <| WP_ret c H

/-- Part 28: the last of the four waits for group 1 of `w`, local copies 4 to 7 waited for and group 1 of `w` loaded. -/
theorem part28 {Q : Post F (Vec F S1x512x2048 .f32)} (H : iprop(mainSt X V c 12 2 0 8 8 8 ∗ R) ⊢ Q (wv V c 1)) :
    iprop(mainSt X V c 12 1 3 8 8 4 ∗ R) ⊢ WP c (onBufs k0_part28 c) Q :=
  wait_last <| loc_step <| loc_step <| loc_step <| loc_step <| loadw_step <| WP_ret c H

/-- Part 29: group 1 of the gathered buffer loaded, the product of group 1 added and copies 12 to 14 of `w` started. -/
theorem part29 {Q : Post F (Σ' (v774 : FVec F S128x2048 .f32), BitVec 32)} (H : ∀ u, iprop(mainSt X V c 15 2 0 8 8 8 ∗ R) ⊢ Q ⟨k0_pay4 acc (wv V c 1) (gv X c 1), u⟩) :
    iprop(mainSt X V c 12 2 0 8 8 8 ∗ R) ⊢ WP c (onBufs k0_part29 c v₁ acc (wv V c 1)) Q :=
  loadg_step 1 <| start_step (k0_off3_eq c 19) <| start_step (k0_off3_eq c 18) <| start_step (k0_off3_eq c 17) <| WP_ret c (H _)

/-- Part 30: copy 15 of `w` started, slot 8 waited for and slot 8 copied on. -/
theorem part30 {Q : Post F (PUnit)} (H : iprop(mainSt X V c 16 2 0 9 9 8 ∗ R) ⊢ Q ⟨⟩) :
    iprop(mainSt X V c 15 2 0 8 8 8 ∗ R) ⊢ WP c (onBufs k0_part30 c v₁ v₂) Q :=
  start_step (k0_off3_eq c 16) <| recv_step <| copy_step <| WP_ret c H

/-- Part 31: slots 9 and 10 waited for and slots 9 and 10 copied on. -/
theorem part31 {Q : Post F (PUnit)} (H : iprop(mainSt X V c 16 2 0 11 11 8 ∗ R) ⊢ Q ⟨⟩) :
    iprop(mainSt X V c 16 2 0 9 9 8 ∗ R) ⊢ WP c (onBufs k0_part31) Q :=
  recv_step <| copy_step <| recv_step <| copy_step <| WP_ret c H

/-- Part 32: slot 11 waited for, slot 11 copied on and the four copies of group 2 of `w` waited for. -/
theorem part32 {Q : Post F (PUnit)} (H : iprop(mainSt X V c 16 3 0 12 12 8 ∗ R) ⊢ Q ⟨⟩) :
    iprop(mainSt X V c 16 2 0 11 11 8 ∗ R) ⊢ WP c (onBufs k0_part32 c) Q :=
  recv_step <| copy_step <| wait_step <| wait_step <| wait_step <| wait_last <| WP_ret c H

/-- Part 33: local copies 8 to 11 waited for and the product of group 2 added. -/
theorem part33 {Q : Post F (FVec F S128x2048 .f32)} (H : iprop(mainSt X V c 16 3 0 12 12 12 ∗ R) ⊢ Q (k0_pay5 acc (wv V c 2) (gv X c 2))) :
    iprop(mainSt X V c 16 3 0 12 12 8 ∗ R) ⊢ WP c (onBufs k0_part33 acc) Q :=
  loc_step <| loc_step <| loc_step <| loc_step <| loadw_step <| loadg_step 2 <| WP_ret c H

/-- Part 34: copies 16 to 18 of `w` started. -/
theorem part34 {Q : Post F (PUnit)} (H : iprop(mainSt X V c 19 3 0 12 12 12 ∗ R) ⊢ Q ⟨⟩) :
    iprop(mainSt X V c 16 3 0 12 12 12 ∗ R) ⊢ WP c (onBufs k0_part34 c v₁) Q :=
  start_step (k0_off3_eq c 15) <| start_step (k0_off3_eq c 14) <| start_step (k0_off3_eq c 13) <| WP_ret c H

/-- Part 35: copy 19 of `w` started, slots 12 and 13 waited for and slot 12 copied on. -/
theorem part35 {Q : Post F (PUnit)} (H : iprop(mainSt X V c 20 3 0 14 13 12 ∗ R) ⊢ Q ⟨⟩) :
    iprop(mainSt X V c 19 3 0 12 12 12 ∗ R) ⊢ WP c (onBufs k0_part35 c) Q :=
  start_step (k0_off3_eq c 12) <| recv_step <| copy_step <| recv_step <| WP_ret c H

/-- Part 36: slots 13 and 14 copied on and slots 14 and 15 waited for. -/
theorem part36 {Q : Post F (PUnit)} (H : iprop(mainSt X V c 20 3 0 16 15 12 ∗ R) ⊢ Q ⟨⟩) :
    iprop(mainSt X V c 20 3 0 14 13 12 ∗ R) ⊢ WP c (onBufs k0_part36) Q :=
  copy_step <| recv_step <| copy_step <| recv_step <| WP_ret c H

/-- Part 37: slot 15 copied on and the four copies of group 3 of `w` waited for. -/
theorem part37 {Q : Post F (PUnit)} (H : iprop(mainSt X V c 20 4 0 16 16 12 ∗ R) ⊢ Q ⟨⟩) :
    iprop(mainSt X V c 20 3 0 16 15 12 ∗ R) ⊢ WP c (onBufs k0_part37 c) Q :=
  copy_step <| wait_step <| wait_step <| wait_step <| wait_last <| WP_ret c H

/-- Part 38: local copies 12 to 15 waited for and the product of group 3 added. -/
theorem part38 {Q : Post F (FVec F S128x2048 .f32)} (H : iprop(mainSt X V c 20 4 0 16 16 16 ∗ R) ⊢ Q (k0_pay6 acc (wv V c 3) (gv X c 3))) :
    iprop(mainSt X V c 20 4 0 16 16 12 ∗ R) ⊢ WP c (onBufs k0_part38 v₁ acc) Q :=
  loc_step <| loc_step <| loc_step <| loc_step <| loadw_step <| loadg_step 3 <| WP_ret c H

/-- Part 39: copies 20 to 23 of `w` started. -/
theorem part39 {Q : Post F (PUnit)} (H : iprop(mainSt X V c 24 4 0 16 16 16 ∗ R) ⊢ Q ⟨⟩) :
    iprop(mainSt X V c 20 4 0 16 16 16 ∗ R) ⊢ WP c (onBufs k0_part39 c v₁) Q :=
  start_step (k0_off3_eq c 11) <| start_step (k0_off3_eq c 10) <| start_step (k0_off3_eq c 9) <| start_step (k0_off3_eq c 8) <| WP_ret c H

/-- Part 40: slots 16 and 17 waited for and slots 16 and 17 copied on. -/
theorem part40 {Q : Post F (PUnit)} (H : iprop(mainSt X V c 24 4 0 18 18 16 ∗ R) ⊢ Q ⟨⟩) :
    iprop(mainSt X V c 24 4 0 16 16 16 ∗ R) ⊢ WP c (onBufs k0_part40) Q :=
  recv_step <| copy_step <| recv_step <| copy_step <| WP_ret c H

/-- Part 41: slots 18 and 19 waited for and slots 18 and 19 copied on. -/
theorem part41 {Q : Post F (PUnit)} (H : iprop(mainSt X V c 24 4 0 20 20 16 ∗ R) ⊢ Q ⟨⟩) :
    iprop(mainSt X V c 24 4 0 18 18 16 ∗ R) ⊢ WP c (onBufs k0_part41) Q :=
  recv_step <| copy_step <| recv_step <| copy_step <| WP_ret c H

/-- Part 42: the four copies of group 4 of `w` waited for and local copy 16 waited for. -/
theorem part42 {Q : Post F (PUnit)} (H : iprop(mainSt X V c 24 5 0 20 20 17 ∗ R) ⊢ Q ⟨⟩) :
    iprop(mainSt X V c 24 4 0 20 20 16 ∗ R) ⊢ WP c (onBufs k0_part42 c) Q :=
  wait_step <| wait_step <| wait_step <| wait_last <| loc_step <| WP_ret c H

/-- Part 43: local copies 17 to 19 waited for and the product of group 4 added. -/
theorem part43 {Q : Post F (FVec F S128x2048 .f32)} (H : iprop(mainSt X V c 24 5 0 20 20 20 ∗ R) ⊢ Q (k0_pay7 acc (wv V c 4) (gv X c 4))) :
    iprop(mainSt X V c 24 5 0 20 20 17 ∗ R) ⊢ WP c (onBufs k0_part43 c v₁ acc) Q :=
  loc_step <| loc_step <| loc_step <| loadw_step <| loadg_step 4 <| WP_ret c H

/-- Part 44: copies 24 to 27 of `w` started. -/
theorem part44 {Q : Post F (PUnit)} (H : iprop(mainSt X V c 28 5 0 20 20 20 ∗ R) ⊢ Q ⟨⟩) :
    iprop(mainSt X V c 24 5 0 20 20 20 ∗ R) ⊢ WP c (onBufs k0_part44 c v₁) Q :=
  start_step (k0_off3_eq c 7) <| start_step (k0_off3_eq c 6) <| start_step (k0_off3_eq c 5) <| start_step (k0_off3_eq c 4) <| WP_ret c H

/-- Part 45: slots 20 and 21 waited for and slots 20 and 21 copied on. -/
theorem part45 {Q : Post F (PUnit)} (H : iprop(mainSt X V c 28 5 0 22 22 20 ∗ R) ⊢ Q ⟨⟩) :
    iprop(mainSt X V c 28 5 0 20 20 20 ∗ R) ⊢ WP c (onBufs k0_part45) Q :=
  recv_step <| copy_step <| recv_step <| copy_step <| WP_ret c H

/-- Part 46: slots 22 and 23 waited for and slots 22 and 23 copied on. -/
theorem part46 {Q : Post F (PUnit)} (H : iprop(mainSt X V c 28 5 0 24 24 20 ∗ R) ⊢ Q ⟨⟩) :
    iprop(mainSt X V c 28 5 0 22 22 20 ∗ R) ⊢ WP c (onBufs k0_part46) Q :=
  recv_step <| copy_step <| recv_step <| copy_step <| WP_ret c H

/-- Part 47: the four copies of group 5 of `w` waited for and local copies 20 and 21 waited for. -/
theorem part47 {Q : Post F (PUnit)} (H : iprop(mainSt X V c 28 6 0 24 24 22 ∗ R) ⊢ Q ⟨⟩) :
    iprop(mainSt X V c 28 5 0 24 24 20 ∗ R) ⊢ WP c (onBufs k0_part47 c) Q :=
  wait_step <| wait_step <| wait_step <| wait_last <| loc_step <| loc_step <| WP_ret c H

/-- Part 48: local copies 22 and 23 waited for, the product of group 5 added and copy 28 of `w` started. -/
theorem part48 {Q : Post F (FVec F S128x2048 .f32)} (H : iprop(mainSt X V c 29 6 0 24 24 24 ∗ R) ⊢ Q (k0_pay8 acc (wv V c 5) (gv X c 5))) :
    iprop(mainSt X V c 28 6 0 24 24 22 ∗ R) ⊢ WP c (onBufs k0_part48 c v₁ acc) Q :=
  loc_step <| loc_step <| loadw_step <| loadg_step 5 <| start_step (k0_off3_eq c 3) <| WP_ret c H

/-- Part 49: copies 29 to 31 of `w` started. -/
theorem part49 {Q : Post F (PUnit)} (H : iprop(mainSt X V c 32 6 0 24 24 24 ∗ R) ⊢ Q ⟨⟩) :
    iprop(mainSt X V c 29 6 0 24 24 24 ∗ R) ⊢ WP c (onBufs k0_part49 c v₁) Q :=
  start_step (k0_off3_eq c 2) <| start_step (k0_off3_eq c 1) <| start_step (k0_off3_eq c 0) <| WP_ret c H

/-- Part 50: slots 24 and 25 waited for and slots 24 and 25 copied on. -/
theorem part50 {Q : Post F (PUnit)} (H : iprop(mainSt X V c 32 6 0 26 26 24 ∗ R) ⊢ Q ⟨⟩) :
    iprop(mainSt X V c 32 6 0 24 24 24 ∗ R) ⊢ WP c (onBufs k0_part50) Q :=
  recv_step <| copy_step <| recv_step <| copy_step <| WP_ret c H

/-- Part 51: slots 26 and 27 waited for, slots 26 and 27 copied on and the first of the four waits for group 6 of `w`. -/
theorem part51 {Q : Post F (PUnit)} (H : iprop(mainSt X V c 32 6 1 28 28 24 ∗ R) ⊢ Q ⟨⟩) :
    iprop(mainSt X V c 32 6 0 26 26 24 ∗ R) ⊢ WP c (onBufs k0_part51 c) Q :=
  recv_step <| copy_step <| recv_step <| copy_step <| wait_step <| WP_ret c H

/-- Part 52: the last three of the four waits for group 6 of `w` and local copies 24 and 25 waited for. -/
theorem part52 {Q : Post F (PUnit)} (H : iprop(mainSt X V c 32 7 0 28 28 26 ∗ R) ⊢ Q ⟨⟩) :
    iprop(mainSt X V c 32 6 1 28 28 24 ∗ R) ⊢ WP c (onBufs k0_part52 c) Q :=
  wait_step <| wait_step <| wait_last <| loc_step <| loc_step <| WP_ret c H

/-- Part 53: local copies 26 and 27 waited for, the product of group 6 added, slot 28 waited for and slot 28 copied on. -/
theorem part53 {Q : Post F (FVec F S128x2048 .f32)} (H : iprop(mainSt X V c 32 7 0 29 29 28 ∗ R) ⊢ Q (k0_pay9 acc (wv V c 6) (gv X c 6))) :
    iprop(mainSt X V c 32 7 0 28 28 26 ∗ R) ⊢ WP c (onBufs k0_part53 acc) Q :=
  loc_step <| loc_step <| loadw_step <| loadg_step 6 <| recv_step <| copy_step <| WP_ret c H

/-- Part 54: slots 29 and 30 waited for and slots 29 and 30 copied on. -/
theorem part54 {Q : Post F (PUnit)} (H : iprop(mainSt X V c 32 7 0 31 31 28 ∗ R) ⊢ Q ⟨⟩) :
    iprop(mainSt X V c 32 7 0 29 29 28 ∗ R) ⊢ WP c (onBufs k0_part54) Q :=
  recv_step <| copy_step <| recv_step <| copy_step <| WP_ret c H

/-- Part 55: slot 31 waited for, slot 31 copied on and the first two of the four waits for group 7 of `w`. -/
theorem part55 {Q : Post F (PUnit)} (H : iprop(mainSt X V c 32 7 2 32 32 28 ∗ R) ⊢ Q ⟨⟩) :
    iprop(mainSt X V c 32 7 0 31 31 28 ∗ R) ⊢ WP c (onBufs k0_part55 c) Q :=
  recv_step <| copy_step <| wait_step <| wait_step <| WP_ret c H

/-- Part 56: the last two of the four waits for group 7 of `w` and local copies 28 to 31 waited for. -/
theorem part56 {Q : Post F (PUnit)} (H : iprop(mainSt X V c 32 8 0 32 32 32 ∗ R) ⊢ Q ⟨⟩) :
    iprop(mainSt X V c 32 7 2 32 32 28 ∗ R) ⊢ WP c (onBufs k0_part56 c) Q :=
  wait_step <| wait_last <| loc_step <| loc_step <| loc_step <| loc_step <| WP_ret c H

end Cert.KernelIdealProof

end
-- ==== Proof.Body.lean ====
/-
The body of a device, from entry to exit: its parts in order, with what is brought together between the exchange, the
products and the waits.
-/
module

public import proofs.«01_k».proof.Proof.GroupParts

@[expose] public section

set_option maxRecDepth 16384

noncomputable section

namespace Cert.KernelIdealProof

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Finset (Ico)

variable {F : FTy → Type} [FloatOps F]

local notation "𝕄" => MT nD τ sig Unit (Elt F) ℕ UU ℕ

variable {X : Dev nD → (cc0_stg0_0 : Ref sig .tc).ty.Contents (Elt F)} {V : Dev nD → (main_arg1 : Ref sig .tc).ty.Contents (Elt F)}
variable {c : Dev nD} {R : sProp (MT nD τ sig Unit (Elt F) ℕ UU ℕ)} {v₁ v₂ v₃ : BitVec 32} {acc : FVec F S128x2048 .f32}

section States

variable (X V c)

/-- For the send `t`: the row block to send, and the tokens of the two credits. -/
def sendTok (t : ℕ) : sProp 𝕄 := iprop(xP X c (fwd c t) ∗ dutyTok ER (sendCell c t) 0 0 ∗ dutyTok ER (recvCell (fwd c t) t) 0 0)
/-- For the wait for send `t`: the cell's position. -/
def sendEnd (t : ℕ) : sProp 𝕄 := atPos ER (sendCell c t) 0 ∅ 0
/-- What the receives and the local copies start from, but for column block 0 of the gathered buffer. -/
def locStart : sProp 𝕄 :=
  iprop((bigSep (Ico 1 32) fun t => iprop(cred (tallyAt (recvCell c t) () NS) ∗ atPos ER (recvCell c t) 0 ∅ 0))
    ∗ (bigSep (Ico 1 32) fun t => iprop(dutyTok ER (locCell c (t % 4)) ((t - 1) / 4) 0 ∗ ∃ f, gathP c t f))
    ∗ (bigSep (Ico 1 5) fun t => atPos ER (locCell c (t % 4)) ((t - 1) / 4) ∅ 0)
    ∗ bigSep (Ico 1 5) fun t => reached ER (locCell c (t % 4)) ((t - 1) / 4))

/-- What a device enters the body with. -/
def entSt : sProp 𝕄 :=
  iprop(sigSt X V c 1 ∗ cred (tallyAt (barCell c) () 31) ∗ atPos ER (barCell c) 0 ∅ 0 ∗ (xP X c c ∗ (∃ f, gathP c 0 f)
    ∗ bigSep (Ico 1 32) (sendTok X c) ∗ wSt V c 0 0 0 ∗ locStart c ∗ (∃ f, outP c f) ∗ bigSep (Ico 1 32) (sendEnd c)))

/-- The output block of device `c`: the products of the eight groups, summed in their order from zero, under the activation. -/
def outV : FVec F S128x2048 .f32 :=
  k0_pay10 (k0_pay9 (k0_pay8 (k0_pay7 (k0_pay6 (k0_pay5 (k0_pay4 (k0_pay3 k0_pay2 (wv V c 0) (gv X c 0)) (wv V c 1) (gv X c 1))
    (wv V c 2) (gv X c 2)) (wv V c 3) (gv X c 3)) (wv V c 4) (gv X c 4)) (wv V c 5) (gv X c 5)) (wv V c 6) (gv X c 6)) (wv V c 7) (gv X c 7)

/-- What a device leaves the body with. -/
def extSt : sProp 𝕄 :=
  iprop(retSt X V c 32 ∗ atPos ER (barCell c) 1 ∅ 0 ∗ xP X c c ∗ wSt V c 32 8 0 ∗ locSt X c 32 32 32 ∗ outP c (outV X V c))

end States

/-! ## Between the phases -/

/-- After the barrier: every peer's slot is at hand, and with it what each send takes. -/
theorem to_sends :
    iprop(gathP c 0 (gathC X c) ∗ xP X c c ∗ base X V c (owedSend c 1) ∗ bigSep (Ico 1 32) (barPay c) ∗ bigSep (Ico 1 32) (sendTok X c) ∗ R)
      ⊢ iprop(sendSt X V c 1 ∗ (gathP c 0 (gathC X c) ∗ xP X c c ∗ R)) := by
  unfold sendSt
  rw [Finset.Ico_self, bigSep_empty, bigSep_sep' (Ico 1 32) (barPay c)]
  iintro ⟨Hg, Hx, HB, Hb, Ht, HR⟩
  isplitl [HB Hb Ht]
  · isplitl [HB]; · iexact HB
    isplitl [Hb Ht]
    · isplitl [Hb]; · iexact Hb
      unfold sendTok; iexact Ht
    iempintro
  isplitl [Hg]; · iexact Hg
  isplitl [Hx]; · iexact Hx
  iexact HR

/-- After the last send a device owes nothing, and keeps the sends' credits. -/
theorem to_groups :
    iprop(sendSt X V c 32 ∗ (gathP c 0 (gathC X c) ∗ xP X c c ∗ (atPos ER (barCell c) 1 ∅ 0 ∗ wSt V c 0 0 0 ∗ locStart c ∗ R)))
      ⊢ iprop(mainSt X V c 0 0 0 1 1 1 ∗ ((bigSep (Ico 1 32) fun t => cred (tallyAt (sendCell c t) () NS)) ∗ xP X c c ∗ atPos ER (barCell c) 1 ∅ 0 ∗ R)) := by
  unfold sendSt mainSt locSt locStart
  rw [owedSend_end, Finset.Ico_self, Finset.Ico_self, bigSep_empty, bigSep_empty, bigSep_empty, bigSep_empty, bigSep_Ico_one]
  iintro ⟨⟨HB, -, Hc⟩, Hg, Hx, Hb, Hw, ⟨H1, H2, H3, H4⟩, HR⟩
  isplitr [Hc Hx Hb HR]
  · isplitl [HB]; · iexact HB
    isplitl [Hw]; · iexact Hw
    isplitl [H1]; · iexact H1
    isplitr; · iempintro
    isplitr; · iempintro
    isplitl [H2]; · iexact H2
    isplitr; · iempintro
    isplitr; · iempintro
    isplitl [Hg]; · iexact Hg
    isplitl [H3]; · iexact H3
    iexact H4
  isplitl [Hc]; · iexact Hc
  isplitl [Hx]; · iexact Hx
  isplitl [Hb]; · iexact Hb
  iexact HR

/-- After the store the sends are waited for. -/
theorem to_waits {f : (cc0_stg1_0 : Ref sig .tc).ty.Contents (Elt F)} :
    iprop(outP c f ∗ mainSt X V c 32 8 0 32 32 32 ∗ (bigSep (Ico 1 32) fun t => cred (tallyAt (sendCell c t) () NS))
        ∗ bigSep (Ico 1 32) (sendEnd c) ∗ R)
      ⊢ iprop(retSt X V c 1 ∗ (outP c f ∗ wSt V c 32 8 0 ∗ locSt X c 32 32 32 ∗ R)) := by
  unfold mainSt retSt
  rw [Finset.Ico_self, bigSep_empty, bigSep_sep' (Ico 1 32) fun t => cred (tallyAt (sendCell c t) () NS)]
  iintro ⟨Ho, ⟨HB, Hw, Hl⟩, Hc, Hs, HR⟩
  isplitl [HB Hc Hs]
  · isplitl [HB]; · iexact HB
    isplitl [Hc Hs]
    · isplitl [Hc]; · iexact Hc
      unfold sendEnd; iexact Hs
    iempintro
  isplitl [Ho]; · iexact Ho
  isplitl [Hw]; · iexact Hw
  isplitl [Hl]; · iexact Hl
  iexact HR

/-- After the last wait for a send all that a device leaves the body with is at hand. -/
theorem to_exit :
    iprop(retSt X V c 32 ∗ (outP c (outV X V c) ∗ wSt V c 32 8 0 ∗ locSt X c 32 32 32 ∗ (xP X c c ∗ atPos ER (barCell c) 1 ∅ 0))) ⊢ extSt X V c := by
  unfold extSt
  iintro ⟨HS, Ho, Hw, Hl, Hx, Hb⟩
  isplitl [HS]; · iexact HS
  isplitl [Hb]; · iexact Hb
  isplitl [Hx]; · iexact Hx
  isplitl [Hw]; · iexact Hw
  isplitl [Hl]; · iexact Hl
  iexact Ho

/-- Of three things held the first two change places. -/
theorem left_comm {P P' P'' : sProp 𝕄} : iprop(P ∗ P' ∗ P'') ⊢ iprop(P' ∗ P ∗ P'') := by
  iintro ⟨H, H', H''⟩
  isplitl [H']; · iexact H'
  isplitl [H]; · iexact H
  iexact H''

/-- What the store and the waits take, brought together. -/
theorem to_store :
    iprop(mainSt X V c 32 8 0 32 32 32 ∗ ((bigSep (Ico 1 32) fun t => cred (tallyAt (sendCell c t) () NS)) ∗ xP X c c ∗ atPos ER (barCell c) 1 ∅ 0
        ∗ ((∃ f, outP c f) ∗ bigSep (Ico 1 32) (sendEnd c))))
      ⊢ iprop(mainSt X V c 32 8 0 32 32 32 ∗ ((∃ f, outP c f) ∗ (bigSep (Ico 1 32) fun t => cred (tallyAt (sendCell c t) () NS))
        ∗ bigSep (Ico 1 32) (sendEnd c) ∗ (xP X c c ∗ atPos ER (barCell c) 1 ∅ 0))) := by
  iintro ⟨HM, Hc, Hx, Hb, Ho, Hs⟩
  isplitl [HM]; · iexact HM
  isplitl [Ho]; · iexact Ho
  isplitl [Hc]; · iexact Hc
  isplitl [Hs]; · iexact Hs
  isplitl [Hx]; · iexact Hx
  iexact Hb

/-! ## The two parts that touch the other buffers -/

/-- Part 6: signals 30 and 31, the wait at the barrier, the device's own row block loaded and stored in the gathered buffer,
    and send 1. -/
theorem part6 {Q : Post F (BitVec 32)} (H : ∀ u, iprop(sendSt X V c 2 ∗ (gathP c 0 (gathC X c) ∗ xP X c c ∗ (atPos ER (barCell c) 1 ∅ 0 ∗ R))) ⊢ Q u) :
    iprop(sigSt X V c 30 ∗ cred (tallyAt (barCell c) () 31) ∗ atPos ER (barCell c) 0 ∅ 0 ∗ (xP X c c ∗ (∃ f, gathP c 0 f)
      ∗ bigSep (Ico 1 32) (sendTok X c) ∗ R)) ⊢ WP c (onBufs k0_part6 c v₁ (SemArray.scalar (sig.barrier 0 rfl)) v₂ v₃) Q := by
  refine sig_step (k0_dev30_eq c) <| sig_step (k0_dev31_eq c) <| bar_step ?_
  have e₁ : iprop(base X V c (owedSend c 1) ∗ bigSep (Ico 1 32) (barPay c) ∗ atPos ER (barCell c) 1 ∅ 0 ∗ (xP X c c ∗ (∃ f, gathP c 0 f)
      ∗ bigSep (Ico 1 32) (sendTok X c) ∗ R))
      ⊢ iprop(xP X c c ∗ ((∃ f, gathP c 0 f) ∗ base X V c (owedSend c 1) ∗ bigSep (Ico 1 32) (barPay c)
      ∗ bigSep (Ico 1 32) (sendTok X c) ∗ (atPos ER (barCell c) 1 ∅ 0 ∗ R))) := by
    iintro ⟨HB, Hb, Ha, Hx, Hg, Ht, HR⟩
    isplitl [Hx]; · iexact Hx
    isplitl [Hg]; · iexact Hg
    isplitl [HB]; · iexact HB
    isplitl [Hb]; · iexact Hb
    isplitl [Ht]; · iexact Ht
    isplitl [Ha]; · iexact Ha
    iexact HR
  refine e₁.trans <| own_step (k0_off1_eq c) <| left_comm.trans <| first_load_step fun _ => first_store_step ?_
  exact to_sends.trans <| send_step (k0_dev32_eq c) (k0_off2_eq c 0) <| WP_ret c (H _)

/-- Part 57: the product of the last group added, the activation taken and the output stored; then the waits for sends 1 and
    2. -/
theorem part57 {Q : Post F PUnit}
    (H : iprop(retSt X V c 3 ∗ (outP c (k0_pay10 acc (wv V c 7) (gv X c 7)) ∗ wSt V c 32 8 0 ∗ locSt X c 32 32 32 ∗ R)) ⊢ Q ⟨⟩) :
    iprop(mainSt X V c 32 8 0 32 32 32 ∗ ((∃ f, outP c f) ∗ (bigSep (Ico 1 32) fun t => cred (tallyAt (sendCell c t) () NS))
      ∗ bigSep (Ico 1 32) (sendEnd c) ∗ R)) ⊢ WP c (onBufs k0_part57 c acc) Q := by
  exact loadw_step <| loadg_step 7 <| left_comm.trans <| out_load_step fun _ => out_store_step <|
    to_waits.trans <| ret_step <| ret_step <| WP_ret c H

/-! ## The body -/

/-- From its entry to its exit, on every device. -/
theorem body64 {Q : Post F (Dev nD)} (H : iprop(retSt X V c 16 ∗ (outP c (outV X V c) ∗ wSt V c 32 8 0 ∗ locSt X c 32 32 32
      ∗ (xP X c c ∗ atPos ER (barCell c) 1 ∅ 0))) ⊢ Q c) : entSt X V c ⊢ WP c (onBufs k0_part64) Q :=
  WP_bind c <| part1 fun _ _ _ => WP_bind c <| part2 fun _ _ => WP_bind c <| part3 fun _ _ => WP_bind c <| part4 fun _ _ =>
    WP_bind c <| part5 fun _ _ => WP_bind c <| part6 fun _ => WP_bind c <| part7 <| WP_bind c <| part8 fun _ => WP_bind c <| part9 <|
    WP_bind c <| part10 fun _ => WP_bind c <| part11 <| WP_bind c <| part12 fun _ => WP_bind c <| part13 <| WP_bind c <| part14 fun _ =>
    WP_bind c <| part15 <| WP_bind c <| part16 fun _ => WP_bind c <| part17 <| WP_bind c <| part18 fun _ => to_groups.trans <| WP_bind c <| part19 <|
    WP_bind c <| part20 fun _ _ => WP_bind c <| part21 <| WP_bind c <| part22 <| WP_bind c <| part23 <| WP_bind c <| part24 <|
    WP_bind c <| part25 fun _ => WP_bind c <| part26 fun _ => WP_bind c <| part27 <| WP_bind c <| part28 <| WP_bind c <| part29 fun _ =>
    WP_bind c <| part30 <| WP_bind c <| part31 <| WP_bind c <| part32 <| WP_bind c <| part33 <| WP_bind c <| part34 <| WP_bind c <| part35 <|
    WP_bind c <| part36 <| WP_bind c <| part37 <| WP_bind c <| part38 <| WP_bind c <| part39 <| WP_bind c <| part40 <| WP_bind c <| part41 <|
    WP_bind c <| part42 <| WP_bind c <| part43 <| WP_bind c <| part44 <| WP_bind c <| part45 <| WP_bind c <| part46 <| WP_bind c <| part47 <|
    WP_bind c <| part48 <| WP_bind c <| part49 <| WP_bind c <| part50 <| WP_bind c <| part51 <| WP_bind c <| part52 <| WP_bind c <| part53 <|
    WP_bind c <| part54 <| WP_bind c <| part55 <| WP_bind c <| part56 <| WP_bind c <| (to_store).trans <| part57 <| WP_bind c <| part58 <|
    WP_bind c <| part59 <| WP_bind c <| part60 <| WP_ret c H

/-- The whole body, from what a device enters it with to what it leaves it with. -/
theorem body_wp {Q : Post F PUnit} (H : extSt X V c ⊢ Q ⟨⟩) : entSt X V c ⊢ WP c (onBufs cc0_body) Q :=
  WP_bind c <| body64 <| WP_bind c <| part61 <| WP_bind c <| part62 <| WP_bind c <| part63 <| ret_step <| ret_step <| WP_ret c (to_exit.trans H)

end Cert.KernelIdealProof

end
-- ==== Proof.Ghost.lean ====
/-
The protocol's ghost state: a device's 71 cells listed family by family, the duty tokens minted for its cells and the
tokens it pays with, the credits the launch books, and the cells' closing.
-/
module

public import proofs.«01_k».proof.Proof.Body

@[expose] public section

set_option maxRecDepth 16384

noncomputable section

namespace Cert.KernelIdealProof

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Finset (Ico)

variable {F : FTy → Type} [FloatOps F]

local notation "𝕄" => MT nD τ sig Unit (Elt F) ℕ UU ℕ

variable (X : Dev nD → (cc0_stg0_0 : Ref sig .tc).ty.Contents (Elt F)) (V : Dev nD → (main_arg1 : Ref sig .tc).ty.Contents (Elt F))

/-! ## Conjunctions over initial segments -/

/-- A conjunction over `Fin n` of what depends on the number is one over the numbers below `n`. -/
theorem bigSep_fin_Ico (n : ℕ) (A : ℕ → sProp 𝕄) : bigSep (Finset.univ : Finset (Fin n)) (fun k => A k.val) = bigSep (Ico 0 n) A := by
  have e : Ico 0 n = (Finset.univ : Finset (Fin n)).map Fin.valEmbedding := by
    ext i
    rw [Finset.mem_Ico, Finset.mem_map]
    exact ⟨fun h => ⟨⟨i, h.2⟩, Finset.mem_univ _, rfl⟩, fun ⟨k, _, h⟩ => h ▸ ⟨Nat.zero_le _, k.isLt⟩⟩
  rw [e, bigSep_map]; rfl

/-- A stretch of numbers, counted from its start. -/
theorem bigSep_shift (a n : ℕ) (A : ℕ → sProp 𝕄) : bigSep (Ico a (a + n)) A = bigSep (Ico 0 n) fun t => A (a + t) := by
  have e : Ico a (a + n) = (Ico 0 n).map (addLeftEmbedding a) := by
    rw [Finset.map_add_left_Ico, Nat.add_zero]
  rw [e, bigSep_map]; rfl

/-! ## A device's cells, family by family -/

/-- The cell number `k` of device `c`. -/
def ncell (c : Dev nD) (k : ℕ) : GSem nD τ sig := if k < 70 then dmaCell c (dsem (2 + k)) else barCell c

/-- The two numberings of a device's cells agree. -/
theorem kcell_eq (c : Dev nD) (k : Fin 71) : kcell (c, k) = ncell c k.val := by
  unfold kcell ksem ncell; dsimp only; split <;> rfl

/-- Cells 0 to 31 are the send cells. -/
theorem ncell_send (c : Dev nD) (t : ℕ) (h : t < 32) : ncell c t = sendCell c t := if_pos (by omega)
/-- Cells 32 to 63 are the receive cells. -/
theorem ncell_recv (c : Dev nD) (t : ℕ) (h : t < 32) : ncell c (32 + t) = recvCell c t := by
  unfold ncell; rw [if_pos (by omega), show 2 + (32 + t) = 34 + t by omega]
/-- Cells 64 and 65 are the copy cells. -/
theorem ncell_copy (c : Dev nD) (t : ℕ) (h : t < 2) : ncell c (64 + t) = copyCell c t := by
  unfold ncell; rw [if_pos (by omega), show 2 + (64 + t) = 66 + t by omega]
/-- Cells 66 to 69 are the local cells. -/
theorem ncell_loc (c : Dev nD) (t : ℕ) (h : t < 4) : ncell c (66 + t) = locCell c t := by
  unfold ncell; rw [if_pos (by omega), show 2 + (66 + t) = 68 + t by omega]
/-- Cell `k`, below 70, is that of DMA semaphore `2 + k`. -/
theorem ncell_dma (c : Dev nD) (k : ℕ) (h : k < 70) : ncell c k = dmaCell c (dsem (2 + k)) := if_pos h
/-- Cell 70 is the barrier cell. -/
theorem ncell_bar (c : Dev nD) : ncell c 70 = barCell c := if_neg (by omega)

/-- Whatever is held of every cell, with a number that goes with it, is held family by family. -/
theorem cells_eq (c : Dev nD) (A : GSem nD τ sig → ℕ → sProp 𝕄) :
    bigSep Finset.univ (fun k : Fin 71 => A (kcell (c, k)) k.val)
      = iprop((bigSep (Ico 0 32) fun t => A (sendCell c t) t) ∗ (bigSep (Ico 0 32) fun t => A (recvCell c t) (32 + t))
        ∗ (bigSep (Ico 0 2) fun b => A (copyCell c b) (64 + b)) ∗ (bigSep (Ico 0 4) fun i => A (locCell c i) (66 + i)) ∗ A (barCell c) 70) := by
  rw [bigSep_congr fun k _ => (by rw [kcell_eq] : A (kcell (c, k)) k.val = A (ncell c k.val) k.val),
    bigSep_fin_Ico 71 fun k => A (ncell c k) k,
    bigSep_cut (show 0 ≤ 32 by decide) (show 32 ≤ 71 by decide), bigSep_cut (show 32 ≤ 64 by decide) (show 64 ≤ 71 by decide),
    bigSep_cut (show 64 ≤ 66 by decide) (show 66 ≤ 71 by decide), bigSep_cut (show 66 ≤ 70 by decide) (show 70 ≤ 71 by decide),
    bigSep_Ico_one, bigSep_shift 32 32, bigSep_shift 64 2, bigSep_shift 66 4, ncell_bar,
    bigSep_congr fun t ht => (by rw [ncell_send c t (Finset.mem_Ico.mp ht).2] : A (ncell c t) t = A (sendCell c t) t),
    bigSep_congr fun t ht => (by rw [ncell_recv c t (Finset.mem_Ico.mp ht).2] : A (ncell c (32 + t)) (32 + t) = A (recvCell c t) (32 + t)),
    bigSep_congr fun t ht => (by rw [ncell_copy c t (Finset.mem_Ico.mp ht).2] : A (ncell c (64 + t)) (64 + t) = A (copyCell c t) (64 + t)),
    bigSep_congr fun t ht => (by rw [ncell_loc c t (Finset.mem_Ico.mp ht).2] : A (ncell c (66 + t)) (66 + t) = A (locCell c t) (66 + t))]

/-- Two cells that are the same are on the same device and have the same number. -/
theorem ncell_inj {c c' : Dev nD} {k k' : ℕ} (hk : k < 71) (hk' : k' < 71) (h : ncell c k = ncell c' k') : c = c' ∧ k = k' := by
  unfold ncell at h
  split at h <;> split at h
  · have e1 : c = c' := congrArg (fun g : GSem nD τ sig => g.1.1) h
    have e2 : (SemLoc.dma (dsem (2 + k)) : SemLoc sig) = .dma (dsem (2 + k')) := congrArg Prod.snd h
    have e3 : (2 + k) % 72 = (2 + k') % 72 := congrArg Fin.val (SemLoc.dma.inj e2)
    exact ⟨e1, by omega⟩
  · exact absurd (congrArg Prod.snd h : (SemLoc.dma (dsem (2 + k)) : SemLoc sig) = .reg barS) (fun e => by cases e)
  · exact absurd (congrArg Prod.snd h : (SemLoc.reg barS : SemLoc sig) = .dma (dsem (2 + k'))) (fun e => by cases e)
  · exact ⟨congrArg (fun g : GSem nD τ sig => g.1.1) h, by omega⟩

/-- The cells of all devices, numbered, are all different. -/
theorem kcell_injective : Function.Injective (kcell : Dev nD × Fin 71 → GSem nD τ sig) := by
  rintro ⟨c, k⟩ ⟨c', k'⟩ h
  rw [kcell_eq, kcell_eq] at h
  obtain ⟨h1, h2⟩ := ncell_inj k.isLt k'.isLt h
  subst h1; rw [Fin.ext h2]

def allCells : Finset (GSem nD τ sig) := Finset.univ.map ⟨kcell, kcell_injective⟩

/-! ## The duty tokens minted -/

/-- The cell number, the round and the duty of token `t` of family `f`: the barrier's, the sends', the receives', the
    copies', the local copies'. Token 0 of some families stands for no duty and is never used. -/
abbrev tokCell (f : Fin 5) (t : ℕ) : ℕ := match f with
  | 0 => 70 | 1 => t | 2 => 32 + t | 3 => 64 + t / 4 % 2 | 4 => 66 + t % 4
abbrev tokRound (f : Fin 5) (t : ℕ) : ℕ := match f with
  | 0 => 0 | 1 => 0 | 2 => 0 | 3 => t / 4 / 2 | 4 => if t = 0 then 100 else (t - 1) / 4
abbrev tokDuty (f : Fin 5) (t : ℕ) : ℕ := match f with
  | 0 => 32 - t | 1 => 0 | 2 => 0 | 3 => t % 4 | 4 => 0

abbrev tokOf (p : Dev nD × Fin 5 × Fin 32) : GSem nD τ sig × ℕ × ℕ :=
  (ncell p.1 (tokCell p.2.1 p.2.2.val), tokRound p.2.1 p.2.2.val, tokDuty p.2.1 p.2.2.val)

/-- The cell of a token is one of a device's 71. -/
theorem tokCell_lt (f : Fin 5) (t : ℕ) (h : t < 32) : tokCell f t < 71 := by
  fin_cases f <;> dsimp only [tokCell] <;> omega

/-- Different tokens stand for different duties. -/
theorem tokOf_injective : Function.Injective tokOf := by
  rintro ⟨c, f, t⟩ ⟨c', f', t'⟩ h
  have ht := t.isLt; have ht' := t'.isLt
  obtain ⟨h1, h2⟩ := ncell_inj (tokCell_lt f t.val ht) (tokCell_lt f' t'.val ht') (congrArg Prod.fst h)
  have h3 : tokRound f t.val = tokRound f' t'.val := congrArg (fun x : GSem nD τ sig × ℕ × ℕ => x.2.1) h
  have h4 : tokDuty f t.val = tokDuty f' t'.val := congrArg (fun x : GSem nD τ sig × ℕ × ℕ => x.2.2) h
  subst h1
  have : f = f' ∧ t.val = t'.val := by
    fin_cases f <;> fin_cases f' <;> simp only [tokCell, tokRound, tokDuty] at h2 h3 h4 <;>
      first | exact ⟨rfl, by omega⟩ | (split at h3 <;> split at h3 <;> exact ⟨rfl, by omega⟩) | (exfalso; omega)
  rw [this.1, Fin.ext this.2]

def allToks : Finset (GSem nD τ sig × ℕ × ℕ) := Finset.univ.map ⟨tokOf, tokOf_injective⟩

/-- The tokens of the duties of device `c`'s cells. -/
def toks (c : Dev nD) : sProp 𝕄 :=
  iprop((bigSep (Ico 1 32) fun t => dutyTok ER (barCell c) 0 (32 - t)) ∗ (bigSep (Ico 1 32) fun t => dutyTok ER (sendCell c t) 0 0)
    ∗ (bigSep (Ico 1 32) fun t => dutyTok ER (recvCell c t) 0 0)
    ∗ (bigSep (Ico 0 32) fun n => dutyTok ER (copyCell c (n / 4 % 2)) (n / 4 / 2) (n % 4))
    ∗ bigSep (Ico 1 32) fun t => dutyTok ER (locCell c (t % 4)) ((t - 1) / 4) 0)

/-- What is held over 0 to 31 is held over 1 to 31. -/
theorem bigSep_drop0 (A : ℕ → sProp 𝕄) : bigSep (Ico 0 32) A ⊢ bigSep (Ico 1 32) A :=
  bigSep_subset (Finset.Ico_subset_Ico_left (Nat.zero_le 1))

/-- What is minted holds the tokens of every device's cells. -/
theorem toks_intro :
    bigSep allToks (fun x => (dutyTok ER x.1 x.2.1 x.2.2 : sProp 𝕄)) ⊢ bigSep Finset.univ fun c : Dev nD => toks c := by
  unfold allToks
  rw [bigSep_map, bigSep_univ_prod]
  refine bigSep_mono fun c _ => ?_
  rw [bigSep_univ_prod, bigSep_univ_eq_bigSepL [(0 : Fin 5), 1, 2, 3, 4] (by decide) (by decide)]
  show iprop((bigSep Finset.univ fun t : Fin 32 => dutyTok ER (ncell c 70) 0 (32 - t.val))
    ∗ (bigSep Finset.univ fun t : Fin 32 => dutyTok ER (ncell c t.val) 0 0)
    ∗ (bigSep Finset.univ fun t : Fin 32 => dutyTok ER (ncell c (32 + t.val)) 0 0)
    ∗ (bigSep Finset.univ fun t : Fin 32 => dutyTok ER (ncell c (64 + t.val / 4 % 2)) (t.val / 4 / 2) (t.val % 4))
    ∗ (bigSep Finset.univ fun t : Fin 32 => dutyTok ER (ncell c (66 + t.val % 4)) (if t.val = 0 then 100 else (t.val - 1) / 4) 0)) ⊢ _
  unfold toks
  rw [bigSep_fin_Ico 32 fun t => dutyTok ER (ncell c 70) 0 (32 - t), bigSep_fin_Ico 32 fun t => dutyTok ER (ncell c t) 0 0,
    bigSep_fin_Ico 32 fun t => dutyTok ER (ncell c (32 + t)) 0 0,
    bigSep_fin_Ico 32 fun t => dutyTok ER (ncell c (64 + t / 4 % 2)) (t / 4 / 2) (t % 4),
    bigSep_fin_Ico 32 fun t => dutyTok ER (ncell c (66 + t % 4)) (if t = 0 then 100 else (t - 1) / 4) 0]
  refine BI.sep_mono ((bigSep_drop0 _).trans ?_) (BI.sep_mono ((bigSep_drop0 _).trans ?_) (BI.sep_mono ((bigSep_drop0 _).trans ?_)
    (BI.sep_mono ?_ ((bigSep_drop0 _).trans ?_))))
  · exact Entails.of_eq (bigSep_congr fun t ht => by rw [ncell_bar])
  · exact Entails.of_eq (bigSep_congr fun t ht => by rw [ncell_send c t (Finset.mem_Ico.mp ht).2])
  · exact Entails.of_eq (bigSep_congr fun t ht => by rw [ncell_recv c t (Finset.mem_Ico.mp ht).2])
  · exact Entails.of_eq (bigSep_congr fun t ht => by rw [ncell_copy c _ (Nat.mod_lt _ (by decide))])
  · exact Entails.of_eq (bigSep_congr fun t ht => by
      rw [ncell_loc c _ (Nat.mod_lt _ (by decide)), if_neg (Nat.one_le_iff_ne_zero.mp (Finset.mem_Ico.mp ht).1)])

/-! ## The tokens dealt to their payers -/

/-- Going `t` places on, as a permutation of the devices. -/
def rot (t : ℕ) (h : t ≤ 32) : Dev nD ≃ Dev nD := ⟨fun c => fwd c t, fun c => bwd c t, fun c => bwd_fwd c t h, fun c => fwd_bwd c t h⟩

/-- The tokens of the duties device `c` pays. -/
def payToks (c : Dev nD) : sProp 𝕄 :=
  iprop((bigSep (Ico 1 32) fun s => dutyTok ER (barCell (fwd c s)) 0 (32 - s)) ∗ (bigSep (Ico 1 32) fun t => dutyTok ER (sendCell c t) 0 0)
    ∗ (bigSep (Ico 1 32) fun t => dutyTok ER (recvCell (fwd c t) t) 0 0)
    ∗ (bigSep (Ico 0 32) fun n => dutyTok ER (copyCell c (n / 4 % 2)) (n / 4 / 2) (n % 4))
    ∗ bigSep (Ico 1 32) fun t => dutyTok ER (locCell c (t % 4)) ((t - 1) / 4) 0)

/-- Conjunctions over the devices and over the distances may be taken in either order. -/
theorem bigSep_swap (B : Dev nD → ℕ → sProp 𝕄) :
    (bigSep Finset.univ fun c : Dev nD => bigSep (Ico 1 32) (B c)) = bigSep (Ico 1 32) fun t => bigSep Finset.univ fun c : Dev nD => B c t := by
  have e : ∀ A : ℕ → sProp 𝕄, bigSep (Ico 1 32) A = bigSep (Finset.univ : Finset (Fin 31)) fun k => A (1 + k.val) := fun A =>
    (bigSep_shift 1 31 A).trans (bigSep_fin_Ico 31 fun t => A (1 + t)).symm
  rw [e, ← bigSep_univ_comm]
  exact bigSep_congr fun c _ => e (B c)

/-- A conjunction over the devices and the distances is unchanged if each device goes on by the distance. -/
theorem bigSep_around (A : Dev nD → ℕ → sProp 𝕄) :
    (bigSep Finset.univ fun c : Dev nD => bigSep (Ico 1 32) (A c)) ⊢ bigSep Finset.univ fun c : Dev nD => bigSep (Ico 1 32) fun t => A (fwd c t) t := by
  rw [bigSep_swap, bigSep_swap fun c t => A (fwd c t) t]
  exact Entails.of_eq (bigSep_congr fun t ht => bigSep_univ_equiv (rot t (Finset.mem_Ico.mp ht).2.le) _)

/-- The tokens sorted by the device whose cells they are of are those sorted by the device that pays with them. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep', bigSep_sep', bigSep_sep']
  exact BI.sep_mono (bigSep_around fun c t => dutyTok ER (barCell c) 0 (32 - t))
    (sep_mono_right (sep_mono_left (bigSep_around fun c t => dutyTok ER (recvCell c t) 0 0)))

/-! ## What the launch deals and makes of it -/

/-- What the launch deals device `c`: its cells' states and positions, and its cells' duty tokens. -/
def deal (c : Dev nD) : sProp 𝕄 :=
  iprop((bigSep Finset.univ fun k : Fin 71 => roundState ER (Rd X V) (kcell (c, k)) 0)
    ∗ (bigSep Finset.univ fun k : Fin 71 => iprop(atPos ER (kcell (c, k)) 0 ∅ 0 ∗ reached ER (kcell (c, k)) 0)) ∗ toks c)

/-- What device `c` starts from: every cell's record, its own cells' positions and the tokens it pays with. -/
def ghost (c : Dev nD) : sProp 𝕄 :=
  iprop(recs X V ∗ (bigSep Finset.univ fun k : Fin 71 => atPos ER (kcell (c, k)) 0 ∅ 0) ∗ payToks c)

/-- What is minted for all cells and all tokens gives every device its deal. -/
theorem fund_all : BI.own (ER (initOf allCells allToks)) ⊢ (|==> bigSep Finset.univ (deal X V) : sProp 𝕄) := by
  have hX (Φ : GSem nD τ sig → sProp 𝕄) : bigSep allCells Φ = bigSep Finset.univ fun c : Dev nD => bigSep Finset.univ fun k : Fin 71 => Φ (kcell (c, k)) := by
    unfold allCells; rw [bigSep_map, bigSep_univ_prod]; rfl
  iintro HX
  imod (Rounds.fund ER (Rd X V) allCells allToks) $$ HX with ⟨Hst, Hr, Hat, Htok⟩
  imodintro
  ihave Hst' := (Entails.of_eq (hX fun g => roundState ER (Rd X V) g 0)) $$ Hst
  ihave Hat' := (Entails.of_eq (hX fun g => atPos ER g 0 ∅ 0)) $$ Hat
  ihave Hr' := (Entails.of_eq (hX fun g => reached ER g 0)) $$ Hr
  ihave Htok' := (toks_intro (F := F)) $$ Htok
  unfold deal; simp only [bigSep_sep']
  isplitl [Hst']; · iexact Hst'
  isplitl [Hat' Hr']
  · isplitl [Hat'] <;> iassumption
  iexact Htok'

/-- The kernel's own semaphores, as the launch lists them. -/
abbrev osem : Fin 70 → SemLoc sig := fun k => .dma (dsem (2 + k.val))

/-- A device's own semaphores and its barrier semaphore, at zero, are its cells' counters at zero. -/
theorem sems_eq (c : Dev nD) :
    iprop(Pipeline.ownSems0 (Ix := Unit) (Name := ℕ) (U := UU) (Lvl := ℕ) (Val := Elt F) (τ := τ) osem c ∗ unscopedSems0 c)
      = (bigSep Finset.univ fun k : Fin 71 => semVal (kcell (c, k)) 0 : sProp 𝕄) := by
  have e : (unscopedSems0 c : sProp 𝕄) = semVal (barCell c) 0 := by
    unfold unscopedSems0; rw [bigSep_eq_bigSepL_of_eq [SemLoc.reg barS] (by decide +kernel) (by decide)]; rfl
  rw [e, bigSep_congr fun k _ => (by rw [kcell_eq] : (semVal (kcell (c, k)) 0 : sProp 𝕄) = semVal (ncell c k.val) 0),
    bigSep_fin_Ico 71 fun k => semVal (ncell c k) 0, show (71 : ℕ) = 70 + 1 from rfl, bigSep_Ico_succ_top (Nat.zero_le 70), ncell_bar]
  have e2 : Pipeline.ownSems0 (Ix := Unit) (Name := ℕ) (U := UU) (Lvl := ℕ) (Val := Elt F) (τ := τ) osem c
      = (bigSep (Ico 0 70) fun k => semVal (ncell c k) 0 : sProp 𝕄) := by
    rw [bigSep_congr fun k hk => (by rw [ncell_dma c k (Finset.mem_Ico.mp hk).2] : (semVal (ncell c k) 0 : sProp 𝕄) = semVal (dmaCell c (dsem (2 + k))) 0),
      ← bigSep_fin_Ico 70 fun k => semVal (dmaCell c (dsem (2 + k))) 0]
    rfl
  rw [e2]
  exact BI.equiv_iff.mp ⟨BI.sep_comm, BI.sep_comm⟩

/-- On each device the cells' invariants are made. -/
theorem core_alloc (c : Dev nD) :
    iprop(Pipeline.ownSems0 (Ix := Unit) (Name := ℕ) (U := UU) (Lvl := ℕ) (Val := Elt F) (τ := τ) osem c ∗ unscopedSems0 c ∗ deal X V c)
      ⊢ |={Set.univ}=> iprop((bigSep Finset.univ fun k : Fin 71 => iprop((∃ κ : ℕ, cellInv ER (Rd X V) κ (kcell (c, k))) ∗ reached ER (kcell (c, k)) 0))
          ∗ (bigSep Finset.univ fun k : Fin 71 => atPos ER (kcell (c, k)) 0 ∅ 0) ∗ toks c) := by
  unfold deal
  rw [bigSep_sep', bigSep_sep']
  iintro ⟨Hos, Hus, Hst, ⟨Hat, Hr⟩, Htok⟩
  ihave Hv := (Entails.of_eq (sems_eq (F := F) c)) $$ [Hos Hus]
  · isplitl [Hos] <;> iassumption
  imod (show iprop((bigSep Finset.univ fun k : Fin 71 => semVal (kcell (c, k)) 0) ∗ bigSep Finset.univ fun k : Fin 71 => roundState ER (Rd X V) (kcell (c, k)) 0)
      ⊢ (|={Set.univ}=> bigSep Finset.univ fun k => iprop(∃ κ : ℕ, cellInv ER (Rd X V) κ (kcell (c, k))) : sProp 𝕄) from by
        rw [← bigSep_sep']
        exact (bigSep_mono fun k _ => (Rounds.body_intro ER (Rd X V) (kcell (c, k))).trans inv_alloc).trans (bigSep_fupd _ _)) $$ [Hv Hst] with Hinv
  · isplitl [Hv] <;> iassumption
  imodintro
  isplitl [Hinv Hr]
  · isplitl [Hinv] <;> iassumption
  isplitl [Hat] <;> iassumption

/-- The cells' invariants, the positions and the tokens, all devices together, give every device what it starts from. -/
theorem regroup :
    (bigSep Finset.univ fun c : Dev nD => iprop((bigSep Finset.univ fun k : Fin 71 => iprop((∃ κ : ℕ, cellInv ER (Rd X V) κ (kcell (c, k))) ∗ reached ER (kcell (c, k)) 0))
          ∗ (bigSep Finset.univ fun k : Fin 71 => atPos ER (kcell (c, k)) 0 ∅ 0) ∗ toks c) : sProp 𝕄)
      ⊢ bigSep Finset.univ (ghost X V) := by
  rw [bigSep_sep', bigSep_sep',
    ← bigSep_univ_prod (fun ck : Dev nD × Fin 71 => iprop((∃ κ : ℕ, cellInv ER (Rd X V) κ (kcell ck)) ∗ reached ER (kcell ck) 0))]
  iintro ⟨#HR, Hat, Htok⟩
  ihave Htk := (toks_around (F := F)) $$ Htok
  iapply (BI.bigSep_with_persistent (R := recs X V)
    (Φ := fun c : Dev nD => iprop((bigSep Finset.univ fun k : Fin 71 => atPos ER (kcell (c, k)) 0 ∅ 0) ∗ payToks c))
    fun c _ => show _ ⊢ ghost X V c from Entails.of_eq rfl)
  isplitr
  · unfold recs; iexact HR
  · iapply (Entails.of_eq (bigSep_sep' Finset.univ (fun c : Dev nD => (bigSep Finset.univ fun k : Fin 71 => atPos ER (kcell (c, k)) 0 ∅ 0 : sProp 𝕄)) payToks).symm)
    isplitl [Hat] <;> iassumption

/-- From the semaphores at zero and what is dealt, on all devices at once. -/
theorem glob : (bigSep Finset.univ fun c => iprop(Pipeline.ownSems0 (Ix := Unit) (Name := ℕ) (U := UU) (Lvl := ℕ) (Val := Elt F) (τ := τ) osem c ∗ unscopedSems0 c ∗ deal X V c) : sProp 𝕄)
    ⊢ |={Set.univ}=> bigSep Finset.univ (ghost X V) :=
  ((bigSep_mono fun c _ => core_alloc X V c).trans (bigSep_fupd _ _)).trans (BI.fupd_mono (regroup X V))

/-! ## The credits booked at launch -/

/-- A sum over the devices of `n` at one of them and 0 elsewhere is `n`. -/
theorem sum_ite_dev (P : Dev nD → Prop) [DecidablePred P] (d₀ : Dev nD) (n : ℕ) (h : ∀ d, P d ↔ d = d₀) :
    (∑ d : Dev nD, if P d then n else 0) = n := by
  rw [Finset.sum_congr rfl fun d _ => (by simp only [h] : (if P d then n else 0) = if d = d₀ then n else 0), Finset.sum_ite_eq' Finset.univ d₀ fun _ => n,
    if_pos (Finset.mem_univ _)]

/-- A barrier cell is no receive cell. -/
theorem bar_ne_recv (c c' : Dev nD) (t : ℕ) : barCell c ≠ recvCell c' t := fun h =>
  absurd (congrArg Prod.snd h : (SemLoc.reg barS : SemLoc sig) = .dma (recvS t)) (fun e => by cases e)

/-- The devices owe the barrier cell of `c` a unit each, but for `c` itself. -/
theorem launch_bar (c : Dev nD) :
    tallyOn (barCell c) (launchCredit (Pipeline.owing fun d => owedSig d 1) 0 (barCell c)) = (tallyAt (barCell c) () 31 : CellTallies nD τ sig Unit) := by
  unfold tallyAt; refine congrArg _ (Finsupp.ext fun u => ?_); cases u
  rw [Pipeline.launchCredit_owing, Finsupp.single_eq_same]
  have h : ∀ d : Dev nD, owedSig d 1 (barCell c) () = ∑ s ∈ Ico 1 32, if c = fwd d s then 1 else 0 := fun d => by
    unfold owedSig owedSend
    rw [Pi.add_apply, Finsupp.add_apply, Finset.sum_apply, Finset.sum_apply, Finsupp.finset_sum_apply, Finsupp.finset_sum_apply,
      Finset.sum_eq_zero fun s _ => by rw [tallyAt_ne_cell (bar_ne_recv c (fwd d s) s)]; rfl, Nat.zero_add]
    refine Finset.sum_congr rfl fun s _ => ?_
    rw [tallyAt_apply]
    exact if_congr ⟨fun e => congrArg (fun g : GSem nD τ sig => g.1.1) e.1, fun e => ⟨by rw [← e], rfl⟩⟩ rfl rfl
  rw [Finset.sum_congr rfl fun d _ => h d, Finset.sum_comm,
    Finset.sum_congr rfl fun s hs => sum_ite_dev (fun d => c = fwd d s) (bwd c s) 1 fun d =>
      ⟨fun e => by rw [e, bwd_fwd d s (Finset.mem_Ico.mp hs).2.le], fun e => by rw [e, fwd_bwd c s (Finset.mem_Ico.mp hs).2.le]⟩]
  rfl

/-- One device owes the receive cell `t` of `c` its transfer. -/
theorem launch_recv (c : Dev nD) (t : ℕ) (h₁ : 1 ≤ t) (h₂ : t < 32) :
    tallyOn (recvCell c t) (launchCredit (Pipeline.owing fun d => owedSig d 1) 0 (recvCell c t)) = (tallyAt (recvCell c t) () NS : CellTallies nD τ sig Unit) := by
  unfold tallyAt; refine congrArg _ (Finsupp.ext fun u => ?_); cases u
  rw [Pipeline.launchCredit_owing, Finsupp.single_eq_same]
  have h : ∀ d : Dev nD, owedSig d 1 (recvCell c t) () = if c = fwd d t then NS else 0 := fun d => by
    unfold owedSig owedSend
    rw [Pi.add_apply, Finsupp.add_apply, Finset.sum_apply, Finset.sum_apply, Finsupp.finset_sum_apply, Finsupp.finset_sum_apply,
      Finset.sum_eq_zero (s := Ico 1 32) (f := fun s => (tallyAt (barCell (fwd d s)) () 1 : CellTallies nD τ sig Unit) (recvCell c t) ())
        fun s _ => by rw [tallyAt_ne_cell (bar_ne_recv (fwd d s) c t).symm]; rfl, Nat.add_zero,
      Finset.sum_eq_single t]
    · rw [tallyAt_apply]
      exact if_congr ⟨fun e => congrArg (fun g : GSem nD τ sig => g.1.1) e.1, fun e => ⟨by rw [← e], rfl⟩⟩ rfl rfl
    · intro s hs hst
      rw [tallyAt_apply]
      refine if_neg fun e => hst ?_
      have e2 : (SemLoc.dma (recvS t) : SemLoc sig) = .dma (recvS s) := congrArg Prod.snd e.1
      have e3 : (34 + t) % 72 = (34 + s) % 72 := congrArg Fin.val (SemLoc.dma.inj e2)
      have := (Finset.mem_Ico.mp hs).2
      omega
    · exact fun hn => absurd (Finset.mem_Ico.mpr ⟨h₁, h₂⟩) hn
  rw [Finset.sum_congr rfl fun d _ => h d]
  exact sum_ite_dev (fun d => c = fwd d t) (bwd c t) NS fun d =>
    ⟨fun e => by rw [e, bwd_fwd d t h₂.le], fun e => by rw [e, fwd_bwd c t h₂.le]⟩

/-- Each device starts with the credit of its barrier wait and of its receives. -/
theorem creds (c : Dev nD) :
    (Pipeline.launchCred (fun d => owedSig d 1) c : sProp 𝕄)
      ⊢ iprop(cred (tallyAt (barCell c) () 31) ∗ bigSep (Ico 1 32) fun t => cred (tallyAt (recvCell c t) () NS)) := by
  unfold Pipeline.launchCred
  rw [bigSep_univ_at _ (SemLoc.reg barS), launch_bar]
  refine sep_mono_right ?_
  have hinj : Set.InjOn (fun t => (SemLoc.dma (recvS t) : SemLoc sig)) (Ico 1 32 : Finset ℕ) := fun s hs t ht e => by
    have e3 : (34 + s) % 72 = (34 + t) % 72 := congrArg Fin.val (SemLoc.dma.inj e)
    have h1 := (Finset.mem_Ico.mp (Finset.mem_coe.mp hs)).2
    have h2 := (Finset.mem_Ico.mp (Finset.mem_coe.mp ht)).2
    omega
  have hsub : (Ico 1 32).image (fun t => (SemLoc.dma (recvS t) : SemLoc sig)) ⊆ Finset.univ.erase (SemLoc.reg barS) := fun x hx => by
    obtain ⟨t, -, rfl⟩ := Finset.mem_image.mp hx
    exact Finset.mem_erase.mpr ⟨(fun e => by cases e), Finset.mem_univ _⟩
  refine (bigSep_subset hsub).trans ?_
  rw [BI.bigSep_image_of_injOn hinj]
  exact Entails.of_eq (bigSep_congr fun t ht => by rw [launch_recv c t (Finset.mem_Ico.mp ht).1 (Finset.mem_Ico.mp ht).2])

/-! ## The cells' closing -/

/-- The round at which cell `k` has no further duties. -/
abbrev lastRound (k : ℕ) : ℕ :=
  if k < 64 ∨ k = 70 then (if k = 0 ∨ k = 32 then 0 else 1) else if k < 66 then 4 else if k = 66 then 7 else 8

/-- A device whose cells are all past their duties takes their counters back, at zero. -/
theorem close_all (c : Dev nD) :
    iprop(recs X V ∗ bigSep Finset.univ fun k : Fin 71 => atPos ER (kcell (c, k)) (lastRound k.val) ∅ 0)
      ⊢ |={Set.univ}=> bigSep Finset.univ fun k : Fin 71 => (semVal (kcell (c, k)) 0 : sProp 𝕄) := by
  refine (BI.bigSep_with_persistent (R := recs X V) (Ψ := fun k : Fin 71 => iprop(|={Set.univ}=> semVal (kcell (c, k)) 0)) fun k _ => ?_).trans (bigSep_fupd _ _)
  iintro ⟨#Hrec, Hat⟩
  icases (recs_at X V (c, k)) $$ Hrec with ⟨⟨%κ, Hg⟩, -⟩
  iapply (Rounds.cell_close ER (Rd X V) (Set.mem_univ κ) (fun h => h) (R := lastRound k.val) (duties_later X V c k _ le_rfl))
  isplitl [Hg] <;> iassumption

end Cert.KernelIdealProof

end
-- ==== Proof.Whole.lean ====
/-
The buffers whole and the pieces the protocol moves: a whole buffer falls into its pieces at the entry, and at the exit
the pieces, whatever each holds, are the whole buffer again.
-/
module

public import proofs.«01_k».proof.Proof.Ghost

@[expose] public section

set_option maxRecDepth 16384

noncomputable section

namespace Cert.KernelIdealProof

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Finset (Ico)

variable {F : FTy → Type} [FloatOps F]

local notation "𝕄" => MT nD τ sig Unit (Elt F) ℕ UU ℕ

variable (X : Dev nD → (cc0_stg0_0 : Ref sig .tc).ty.Contents (Elt F)) (V : Dev nD → (main_arg1 : Ref sig .tc).ty.Contents (Elt F))

/-! ## A partition of a buffer into numbered pieces -/

/-- A buffer is held whole exactly when the pieces of a partition of it are held, at the same contents. -/
theorem split_whole (ℓ : Loc nD τ sig) (n : ℕ) (S : ℕ → Finset (Idx ℓ)) (hc : ∀ i, ∃ t ∈ Ico 0 n, i ∈ S t)
    (hd : ∀ t ∈ Ico 0 n, ∀ t' ∈ Ico 0 n, t ≠ t' → Disjoint (S t) (S t')) (f : Buf (Elt F) ℓ) :
    (ℓ ↦{fullShare} f : sProp 𝕄) = bigSep (Ico 0 n) fun t => ℓ ↦[S t]{fullShare} f := by
  rw [← pointsTo_biUnion (Val := Elt F) (ℓ := ℓ) (q := fullShare) (f := f) (Ico 0 n) S hd,
    Finset.eq_univ_of_forall fun i => Finset.mem_biUnion.mpr (hc i)]

/-- The pieces of a partition of a buffer, each held at some contents, give the buffer whole at some contents. -/
theorem join_whole (ℓ : Loc nD τ sig) [Nonempty (Buf (Elt F) ℓ)] (n : ℕ) (S : ℕ → Finset (Idx ℓ)) (hc : ∀ i, ∃ t ∈ Ico 0 n, i ∈ S t)
    (hd : ∀ t ∈ Ico 0 n, ∀ t' ∈ Ico 0 n, t ≠ t' → Disjoint (S t) (S t')) :
    (bigSep (Ico 0 n) fun t => iprop(∃ f : Buf (Elt F) ℓ, ℓ ↦[S t]{fullShare} f)) ⊢ (iprop(∃ f : Buf (Elt F) ℓ, ℓ ↦{fullShare} f) : sProp 𝕄) := by
  iintro H
  ihave H := (BI.bigSep_exists_pi (Ico 0 n) fun (t : ℕ) (f : Buf (Elt F) ℓ) => (ℓ ↦[S t]{fullShare} f : sProp 𝕄)) $$ H
  icases H with ⟨%fs, H⟩
  ihave H := (pointsTo_biUnion_join (Val := Elt F) (ℓ := ℓ) (q := fullShare) (Ico 0 n) S fs (Classical.arbitrary _) hd) $$ H
  icases H with ⟨%g, -, H⟩
  iexists g
  rw [Finset.eq_univ_of_forall fun i => Finset.mem_biUnion.mpr (hc i)]
  iexact H

/-! ## The landing buffer -/

/-- The elements of slot `t`, held, are the slot held at some contents. -/
theorem slot_intro (c : Dev nD) (t : ℕ) (f : (cc0_scratch0 : Ref sig .tc).ty.Contents (Elt F)) :
    (((c : Thread nD τ).loc cc0_scratch0) ↦[slotSet t]{fullShare} f : sProp 𝕄) ⊢ iprop(∃ f, slotP c t f) := by
  unfold slotP
  iintro H
  iexists f
  iexact H

/-- The landing buffer, held whole, is slot 0 and the slots `32 - t` for `t` from 1 to 31. -/
theorem slots_split (c : Dev nD) (f : (cc0_scratch0 : Ref sig .tc).ty.Contents (Elt F)) :
    (((c : Thread nD τ).loc cc0_scratch0) ↦{fullShare} f : sProp 𝕄)
      ⊢ iprop((∃ f, slotP c 0 f) ∗ bigSep (Ico 1 32) fun t => iprop(∃ f, slotP c (32 - t) f)) := by
  rw [split_whole ((c : Thread nD τ).loc cc0_scratch0) 32 (fun t => slotSet ((32 - t) % 32))
    (fun (i : S32x128x128.Idx) => by
      have h : (i 0).val < 32 := (i 0).isLt
      exact ⟨(32 - (i 0).val) % 32, Finset.mem_Ico.mpr ⟨Nat.zero_le _, Nat.mod_lt _ (by decide)⟩, mem_slotSet.mpr (by omega)⟩)
    (fun t ht t' ht' hne => Finset.disjoint_left.mpr fun (i : S32x128x128.Idx) hi hi' => by
      have h := (Finset.mem_Ico.mp ht).2; have h' := (Finset.mem_Ico.mp ht').2
      rw [mem_slotSet] at hi hi'; omega) f,
    bigSep_Ico_succ_bot (by decide)]
  refine BI.sep_mono (slot_intro c 0 f) (bigSep_mono fun t ht => ?_)
  have h := Finset.mem_Ico.mp ht
  rw [show (32 - t) % 32 = 32 - t by omega]
  exact slot_intro c (32 - t) f

/-- A slot held is its elements held at some contents. -/
theorem slot_elim (c : Dev nD) (t : ℕ) (f : (cc0_scratch0 : Ref sig .tc).ty.Contents (Elt F)) :
    (slotP c t f : sProp 𝕄)
      ⊢ iprop(∃ f : Buf (Elt F) ((c : Thread nD τ).loc cc0_scratch0), ((c : Thread nD τ).loc cc0_scratch0) ↦[slotSet t]{fullShare} f) := by
  unfold slotP
  iintro H
  iexists f
  iexact H

/-- The same of a slot held at some contents. -/
theorem slot_any (c : Dev nD) (t : ℕ) :
    (iprop(∃ f, slotP c t f) : sProp 𝕄)
      ⊢ iprop(∃ f : Buf (Elt F) ((c : Thread nD τ).loc cc0_scratch0), ((c : Thread nD τ).loc cc0_scratch0) ↦[slotSet t]{fullShare} f) := by
  iintro ⟨%f, H⟩
  iapply (slot_elim c t f)
  iexact H

/-- Slot 0 and the 31 filled slots are the landing buffer, whole. -/
theorem slots_join (c : Dev nD) :
    iprop((∃ f, slotP c 0 f) ∗ bigSep (Ico 1 32) fun t => slotP c t (slotC X c))
      ⊢ (iprop(∃ f : Buf (Elt F) ((c : Thread nD τ).loc cc0_scratch0), ((c : Thread nD τ).loc cc0_scratch0) ↦{fullShare} f) : sProp 𝕄) := by
  haveI : Nonempty (Buf (Elt F) ((c : Thread nD τ).loc cc0_scratch0)) := ⟨slotC X c⟩
  refine BI.Entails.trans ?_ (join_whole ((c : Thread nD τ).loc cc0_scratch0) 32 slotSet
    (fun (i : S32x128x128.Idx) => ⟨(i 0).val, Finset.mem_Ico.mpr ⟨Nat.zero_le _, (i 0).isLt⟩, mem_slotSet.mpr rfl⟩)
    (fun t ht t' ht' hne => Finset.disjoint_left.mpr fun (i : S32x128x128.Idx) hi hi' => hne ((mem_slotSet.mp hi).symm.trans (mem_slotSet.mp hi'))))
  exact (BI.sep_mono (slot_any c 0) (bigSep_mono fun t _ => slot_elim c t (slotC X c))).trans
    (Entails.of_eq (bigSep_Ico_succ_bot (a := 0) (b := 32) (by decide) fun t =>
      (iprop(∃ f : Buf (Elt F) ((c : Thread nD τ).loc cc0_scratch0), ((c : Thread nD τ).loc cc0_scratch0) ↦[slotSet t]{fullShare} f) : sProp 𝕄)).symm)

/-! ## The gathered buffer -/

/-- Every element of the gathered buffer is in one of its 32 column blocks. -/
theorem gath_cover (i : S128x4096.Idx) : ∃ t ∈ Ico 0 32, i ∈ gathSet t :=
  ⟨(i 1).val / 128, Finset.mem_Ico.mpr ⟨Nat.zero_le _, by have h : (i 1).val < 4096 := (i 1).isLt; omega⟩, mem_gathSet.mpr rfl⟩

/-- The elements of column block `t`, held, are the column block held at some contents. -/
theorem gath_intro (c : Dev nD) (t : ℕ) (f : (cc0_scratch1 : Ref sig .tc).ty.Contents (Elt F)) :
    (((c : Thread nD τ).loc cc0_scratch1) ↦[gathSet t]{fullShare} f : sProp 𝕄) ⊢ iprop(∃ f, gathP c t f) := by
  unfold gathP
  iintro H
  iexists f
  iexact H

/-- The gathered buffer, held whole, is column block 0 and the column blocks 1 to 31. -/
theorem gath_split (c : Dev nD) (f : (cc0_scratch1 : Ref sig .tc).ty.Contents (Elt F)) :
    (((c : Thread nD τ).loc cc0_scratch1) ↦{fullShare} f : sProp 𝕄)
      ⊢ iprop((∃ f, gathP c 0 f) ∗ bigSep (Ico 1 32) fun t => iprop(∃ f, gathP c t f)) := by
  rw [split_whole ((c : Thread nD τ).loc cc0_scratch1) 32 gathSet gath_cover (gath_disj _) f, bigSep_Ico_succ_bot (by decide)]
  exact BI.sep_mono (gath_intro c 0 f) (bigSep_mono fun t _ => gath_intro c t f)

/-- The 32 filled column blocks are the gathered buffer, whole and filled. -/
theorem gath_whole (c : Dev nD) :
    (bigSep (Ico 0 32) fun t => gathP c t (gathC X c)) = (((c : Thread nD τ).loc cc0_scratch1) ↦{fullShare} gathC X c : sProp 𝕄) := by
  rw [split_whole ((c : Thread nD τ).loc cc0_scratch1) 32 gathSet gath_cover (gath_disj _) (gathC X c)]; rfl

/-! ## The double buffer of `w` -/

/-- Every element of the double buffer is in one of eight pieces in a row, counted from a multiple of 8. -/
theorem wbuf_cover (a : ℕ) (ha : a % 8 = 0) (i : S2x512x2048.Idx) : ∃ t ∈ Ico 0 8, i ∈ wbufSet (a + t) := by
  have h0 : (i 0).val < 2 := (i 0).isLt
  have h1 : (i 1).val < 512 := (i 1).isLt
  exact ⟨4 * (i 0).val + (i 1).val / 128, Finset.mem_Ico.mpr ⟨Nat.zero_le _, by omega⟩, mem_wbufSet.mpr ⟨by omega, by omega⟩⟩

/-- Eight pieces in a row, counted from a multiple of 8, have no element in common. -/
theorem wbuf_disj8 (a : ℕ) (ha : a % 8 = 0) : ∀ t ∈ Ico 0 8, ∀ t' ∈ Ico 0 8, t ≠ t' → Disjoint (wbufSet (a + t)) (wbufSet (a + t')) :=
  fun t ht t' ht' hne => Finset.disjoint_left.mpr fun i hi hi' => by
    have h := (Finset.mem_Ico.mp ht).2; have h' := (Finset.mem_Ico.mp ht').2
    rw [mem_wbufSet] at hi hi'; omega

/-- The elements of one of the first eight pieces, held, are what the copy of its number is to find. -/
theorem free_intro (c : Dev nD) (t : ℕ) (h : t < 8) (f : (cc0_scratch2 : Ref sig .tc).ty.Contents (Elt F)) :
    (((c : Thread nD τ).loc cc0_scratch2) ↦[wbufSet t]{fullShare} f : sProp 𝕄) ⊢ freeW V c t := by
  unfold freeW wbufP
  iintro H
  iexists f
  isplitr; · ipureintro; exact fun h8 => absurd h8 (by omega)
  iexact H

/-- A free piece is its elements held at some contents. -/
theorem free_elim (c : Dev nD) (t : ℕ) :
    (freeW V c t : sProp 𝕄)
      ⊢ iprop(∃ f : Buf (Elt F) ((c : Thread nD τ).loc cc0_scratch2), ((c : Thread nD τ).loc cc0_scratch2) ↦[wbufSet t]{fullShare} f) := by
  unfold freeW wbufP
  iintro ⟨%f, -, H⟩
  iexists f
  iexact H

/-- The double buffer, held whole, is what the first eight copies are to find. -/
theorem wbuf_split (c : Dev nD) (f : (cc0_scratch2 : Ref sig .tc).ty.Contents (Elt F)) :
    (((c : Thread nD τ).loc cc0_scratch2) ↦{fullShare} f : sProp 𝕄) ⊢ bigSep (Ico 0 8) (freeW V c) := by
  rw [split_whole ((c : Thread nD τ).loc cc0_scratch2) 8 (fun t => wbufSet (0 + t)) (wbuf_cover 0 rfl) (wbuf_disj8 0 rfl) f]
  refine bigSep_mono fun t ht => ?_
  have h := (Finset.mem_Ico.mp ht).2
  rw [Nat.zero_add]
  exact free_intro V c t h f

/-- The eight pieces that the copies after the last would find are the double buffer, whole. -/
theorem wbuf_join8 (c : Dev nD) :
    bigSep (Ico 32 40) (freeW V c)
      ⊢ (iprop(∃ f : Buf (Elt F) ((c : Thread nD τ).loc cc0_scratch2), ((c : Thread nD τ).loc cc0_scratch2) ↦{fullShare} f) : sProp 𝕄) := by
  haveI : Nonempty (Buf (Elt F) ((c : Thread nD τ).loc cc0_scratch2)) := ⟨wbufC V c 0⟩
  refine BI.Entails.trans ?_ (join_whole ((c : Thread nD τ).loc cc0_scratch2) 8 (fun t => wbufSet (32 + t)) (wbuf_cover 32 rfl) (wbuf_disj8 32 rfl))
  rw [bigSep_shift 32 8]
  exact bigSep_mono fun t _ => free_elim V c (32 + t)

/-! ## The staged `x` and `w` -/

/-- The staged `x`, whole, is the device's own row block and those of the devices 1 to 31 places on. -/
theorem x_split (c : Dev nD) :
    (((c : Thread nD τ).loc cc0_stg0_0) ↦{fullShare} X c : sProp 𝕄) = iprop(xP X c c ∗ bigSep (Ico 1 32) fun t => xP X c (fwd c t)) := by
  have hc := dev_lt c
  rw [split_whole ((c : Thread nD τ).loc cc0_stg0_0) 32 (fun t => xSet (fwd c t).val)
    (fun (i : S4096x128.Idx) => by
      have h : (i 0).val < 4096 := (i 0).isLt
      exact ⟨((i 0).val / 128 + (32 - c.val)) % 32, Finset.mem_Ico.mpr ⟨Nat.zero_le _, Nat.mod_lt _ (by decide)⟩, mem_xSet.mpr (by dsimp only; omega)⟩)
    (fun t ht t' ht' hne => Finset.disjoint_left.mpr fun (i : S4096x128.Idx) hi hi' => by
      have h := (Finset.mem_Ico.mp ht).2; have h' := (Finset.mem_Ico.mp ht').2
      rw [mem_xSet] at hi hi'; dsimp only at hi hi'; omega) (X c),
    bigSep_Ico_succ_bot (by decide), fwd_zero]
  rfl

/-- The argument `w`, whole, is its row blocks, in the order in which they are copied. -/
theorem w_split (c : Dev nD) :
    (((c : Thread nD τ).loc main_arg1) ↦{fullShare} V c : sProp 𝕄) = bigSep (Ico 0 32) fun n => wP V c (bwd c n) := by
  have hc := dev_lt c
  rw [split_whole ((c : Thread nD τ).loc main_arg1) 32 (fun t => wSet (bwd c t).val)
    (fun (i : S4096x2048.Idx) => by
      have h : (i 0).val < 4096 := (i 0).isLt
      exact ⟨(c.val + (32 - (i 0).val / 128)) % 32, Finset.mem_Ico.mpr ⟨Nat.zero_le _, Nat.mod_lt _ (by decide)⟩, mem_wSet.mpr (by dsimp only; omega)⟩)
    (fun t ht t' ht' hne => Finset.disjoint_left.mpr fun (i : S4096x2048.Idx) hi hi' => by
      have h := (Finset.mem_Ico.mp ht).2; have h' := (Finset.mem_Ico.mp ht').2
      rw [mem_wSet] at hi hi'; dsimp only at hi hi'; omega) (V c)]
  rfl

end Cert.KernelIdealProof

end
-- ==== Proof.EnterLeave.lean ====
/-
From what the launch gives a device to what its body enters with, and from what the body leaves to what the launch
takes back.
-/
module

public import proofs.«01_k».proof.Proof.Whole

@[expose] public section

set_option maxRecDepth 16384

noncomputable section

namespace Cert.KernelIdealProof

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Finset (Ico)

variable {F : FTy → Type} [FloatOps F]

local notation "𝕄" => MT nD τ sig Unit (Elt F) ℕ UU ℕ

variable (X : Dev nD → (cc0_stg0_0 : Ref sig .tc).ty.Contents (Elt F)) (V : Dev nD → (main_arg1 : Ref sig .tc).ty.Contents (Elt F)) (c : Dev nD)

/-! ## The states -/

/-- The three scratch buffers, whole, at some contents. -/
def scratches : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

/-- The argument `w`, whole. -/
def wWhole : sProp 𝕄 := ((c : Thread nD τ).loc main_arg1) ↦{fullShare} V c
/-- The staged `x`, whole. -/
def xWhole : sProp 𝕄 := ((c : Thread nD τ).loc cc0_stg0_0) ↦{fullShare} X c

/-- What the launch gives a device. -/
def start : sProp 𝕄 :=
  iprop(ghost X V c ∗ (cred (tallyAt (barCell c) () 31) ∗ bigSep (Ico 1 32) fun t => cred (tallyAt (recvCell c t) () NS))
    ∗ levAts L lv ∗ wWhole V c)

/-- What no step of the body touches: the slot and the two cells of the distance zero. -/
def idle : sProp 𝕄 :=
  iprop((∃ f, slotP c 0 f) ∗ atPos ER (sendCell c 0) 0 ∅ 0 ∗ atPos ER (recvCell c 0) 0 ∅ 0)

/-- What the launch takes back: every counter at zero and the buffers. -/
def finish : sProp 𝕄 :=
  iprop((bigSep Finset.univ fun k : Fin 71 => semVal (kcell (c, k)) 0) ∗ scratches c ∗ wWhole V c)

/-! ## The entry -/

/-- What is held over the numbers below 2 is held of 0 and 1. -/
theorem bigSep_two (A : ℕ → sProp 𝕄) : bigSep (Ico 0 2) A = iprop(A 0 ∗ A 1) := bigSep_eq_bigSepL_of_eq (S := Ico 0 2) [0, 1] (by decide) (by decide) A

/-- The four local cells at round 0 are at the rounds of the local copies 1 to 4. -/
theorem loc_positions :
    (bigSep (Ico 0 4) fun i => (atPos ER (locCell c i) 0 ∅ 0 : sProp 𝕄)) ⊢ bigSep (Ico 1 5) fun t => atPos ER (locCell c (t % 4)) ((t - 1) / 4) ∅ 0 := by
  rw [bigSep_eq_bigSepL_of_eq (S := Ico 0 4) [0, 1, 2, 3] (by decide) (by decide), bigSep_eq_bigSepL_of_eq (S := Ico 1 5) [1, 2, 3, 4] (by decide) (by decide)]
  show iprop(atPos ER (locCell c 0) 0 ∅ 0 ∗ atPos ER (locCell c 1) 0 ∅ 0 ∗ atPos ER (locCell c 2) 0 ∅ 0 ∗ (atPos ER (locCell c 3) 0 ∅ 0 : sProp 𝕄))
    ⊢ iprop(atPos ER (locCell c 1) 0 ∅ 0 ∗ atPos ER (locCell c 2) 0 ∅ 0 ∗ atPos ER (locCell c 3) 0 ∅ 0 ∗ atPos ER (locCell c 0) 0 ∅ 0)
  iintro ⟨H0, H1, H2, H3⟩
  isplitl [H1]; · iexact H1
  isplitl [H2]; · iexact H2
  isplitl [H3] <;> iassumption

/-- At the rounds of the numbers 32 to 35 the four local cells are past their last rounds. -/
theorem loc_positions_end :
    (bigSep (Ico 32 36) fun t => (atPos ER (locCell c (t % 4)) ((t - 1) / 4) ∅ 0 : sProp 𝕄))
      = bigSep (Ico 0 4) fun i => atPos ER (locCell c i) (lastRound (66 + i)) ∅ 0 := by
  rw [bigSep_shift 32 4]
  refine bigSep_congr fun t ht => ?_
  have h := (Finset.mem_Ico.mp ht).2
  rw [show (32 + t) % 4 = t by omega, show (32 + t - 1) / 4 = lastRound (66 + t) by unfold lastRound; split_ifs <;> omega]

/-- The positions of a device's cells, family by family: the cells of distance zero apart, the local cells by their first
    copies. -/
theorem positions :
    (bigSep Finset.univ fun k : Fin 71 => (atPos ER (kcell (c, k)) 0 ∅ 0 : sProp 𝕄))
      ⊢ iprop((atPos ER (sendCell c 0) 0 ∅ 0 ∗ bigSep (Ico 1 32) (sendEnd c))
        ∗ (atPos ER (recvCell c 0) 0 ∅ 0 ∗ bigSep (Ico 1 32) fun t => atPos ER (recvCell c t) 0 ∅ 0)
        ∗ (atPos ER (copyCell c 0) 0 ∅ 0 ∗ atPos ER (copyCell c 1) 0 ∅ 0)
        ∗ (bigSep (Ico 1 5) fun t => atPos ER (locCell c (t % 4)) ((t - 1) / 4) ∅ 0) ∗ atPos ER (barCell c) 0 ∅ 0) := by
  rw [cells_eq c fun g _ => (atPos ER g 0 ∅ 0 : sProp 𝕄)]
  rw [bigSep_two]
  exact BI.sep_mono (Entails.of_eq (bigSep_Ico_succ_bot (by decide) _)) (BI.sep_mono (Entails.of_eq (bigSep_Ico_succ_bot (by decide) _))
    (sep_mono_right (sep_mono_left (loc_positions c))))

/-- The first round of each copy cell is reached. -/
theorem copies_reached : (recs X V : sProp 𝕄) ⊢ bigSep (Ico 0 2) fun h => reached ER (copyCell c (h % 2)) (h / 2) := by
  refine (BI.bigSep_of_persistent (Ico 0 2) (recs X V)).trans (bigSep_mono fun t ht => ?_)
  have h := (Finset.mem_Ico.mp ht).2
  rw [show t / 2 = 0 by omega]
  exact (recs_dma X V c (66 + t % 2) (by omega) (by omega)).trans (by iintro ⟨-, H⟩; iexact H)

/-- The rounds of the local copies 1 to 4 are reached. -/
theorem locs_reached : (recs X V : sProp 𝕄) ⊢ bigSep (Ico 1 5) fun t => reached ER (locCell c (t % 4)) ((t - 1) / 4) := by
  refine (BI.bigSep_of_persistent (Ico 1 5) (recs X V)).trans (bigSep_mono fun t ht => ?_)
  have h := (Finset.mem_Ico.mp ht).2
  rw [show (t - 1) / 4 = 0 by omega]
  exact (recs_dma X V c (68 + t % 4) (by omega) (by omega)).trans (by iintro ⟨-, H⟩; iexact H)

/-- What the copies of `w` start from, out of the tokens, `w`, the eight free pieces and the two positions. -/
theorem wSt_intro :
    iprop(recs X V ∗ (bigSep (Ico 0 32) fun n => dutyTok ER (copyCell c (n / 4 % 2)) (n / 4 / 2) (n % 4)) ∗ wWhole V c
        ∗ bigSep (Ico 0 8) (freeW V c) ∗ atPos ER (copyCell c 0) 0 ∅ 0 ∗ atPos ER (copyCell c 1) 0 ∅ 0) ⊢ (wSt V c 0 0 0 : sProp 𝕄) := by
  unfold wSt wWhole
  rw [w_split]
  iintro ⟨#HI, Ht, Hw, Hf, H0, H1⟩
  isplitl [Ht Hw]
  · iapply (Entails.of_eq (bigSep_sep' (Ico 0 32) (fun n => (dutyTok ER (copyCell c (n / 4 % 2)) (n / 4 / 2) (n % 4) : sProp 𝕄)) fun n => wP V c (bwd c n)).symm)
    isplitl [Ht] <;> iassumption
  isplitr; · rw [Nat.mul_zero, Finset.Ico_self, bigSep_empty]; iempintro
  isplitl [Hf]; · iexact Hf
  isplitr; · rw [Nat.mul_zero, Nat.add_zero, Finset.Ico_self, bigSep_empty]; iempintro
  isplitl [H0]
  · iexists ∅
    isplitr; · ipureintro; exact ⟨Finset.empty_subset _, fun _ => rfl⟩
    rw [bigSep_empty]
    isplitl; · iexact H0
    iempintro
  isplitl [H1]; · iexact H1
  iapply (copies_reached X V c); iexact HI

/-- What the receives and the local copies start from, out of the credits, the positions, the tokens and the column blocks.
    -/
theorem locStart_intro :
    iprop(recs X V ∗ (bigSep (Ico 1 32) fun t => cred (tallyAt (recvCell c t) () NS)) ∗ (bigSep (Ico 1 32) fun t => atPos ER (recvCell c t) 0 ∅ 0)
        ∗ (bigSep (Ico 1 32) fun t => dutyTok ER (locCell c (t % 4)) ((t - 1) / 4) 0) ∗ (bigSep (Ico 1 32) fun t => iprop(∃ f, gathP c t f))
        ∗ bigSep (Ico 1 5) fun t => atPos ER (locCell c (t % 4)) ((t - 1) / 4) ∅ 0) ⊢ (locStart c : sProp 𝕄) := by
  unfold locStart
  iintro ⟨#HI, Hc, Ha, Ht, Hg, Hl⟩
  isplitl [Hc Ha]
  · iapply (Entails.of_eq (bigSep_sep' (Ico 1 32) (fun t => (cred (tallyAt (recvCell c t) () NS) : sProp 𝕄)) fun t => atPos ER (recvCell c t) 0 ∅ 0).symm)
    isplitl [Hc] <;> iassumption
  isplitl [Ht Hg]
  · iapply (Entails.of_eq (bigSep_sep' (Ico 1 32) (fun t => (dutyTok ER (locCell c (t % 4)) ((t - 1) / 4) 0 : sProp 𝕄)) fun t => iprop(∃ f, gathP c t f)).symm)
    isplitl [Ht] <;> iassumption
  isplitl [Hl]; · iexact Hl
  iapply (locs_reached X V c); iexact HI

/-- A device enters its body. -/
theorem enter :
    iprop(start X V c ∗ scratches c ∗ (∃ W, owes (c : Thread nD τ) (owedSig c 1) W) ∗ xWhole X c ∗ ∃ f, outP c f)
      ⊢ iprop(entSt X V c ∗ (idle c : sProp 𝕄)) := by
  unfold start scratches ghost payToks entSt sigSt base sendTok xWhole
  rw [x_split]
  iintro ⟨⟨⟨#HI, Hat, Htb, Hts, Htr, Htc, Htl⟩, ⟨Hcb, Hcr⟩, #HL, Hw⟩, ⟨⟨%f0, Hs0⟩, ⟨%f1, Hs1⟩, ⟨%f2, Hs2⟩⟩, HO, ⟨Hxc, Hx⟩, Hout⟩
  ihave Hat := (positions (F := F) c) $$ Hat
  icases Hat with ⟨⟨Has0, Has⟩, ⟨Har0, Har⟩, ⟨Hac0, Hac1⟩, Hal, Hab⟩
  ihave Hs0 := (slots_split c f0) $$ Hs0
  icases Hs0 with ⟨Hz, Hslots⟩
  ihave Hs1 := (gath_split c f1) $$ Hs1
  icases Hs1 with ⟨Hg0, Hg⟩
  ihave Hf := (wbuf_split V c f2) $$ Hs2
  isplitr [Hz Has0 Har0]
  · isplitl [HO Htb Hslots]
    · isplitl [HO]
      · isplitr; · iexact HI
        isplitr; · iexact HL
        iexact HO
      iapply (Entails.of_eq (bigSep_sep' (Ico 1 32) (fun s => (dutyTok ER (barCell (fwd c s)) 0 (32 - s) : sProp 𝕄)) fun s => iprop(∃ f, slotP c (32 - s) f)).symm)
      isplitl [Htb] <;> iassumption
    isplitl [Hcb]; · iexact Hcb
    isplitl [Hab]; · iexact Hab
    isplitl [Hxc]; · iexact Hxc
    isplitl [Hg0]; · iexact Hg0
    isplitl [Hx Hts Htr]
    · iapply (Entails.of_eq (bigSep_sep' (Ico 1 32) (fun t => (xP X c (fwd c t) : sProp 𝕄)) fun t => iprop(dutyTok ER (sendCell c t) 0 0 ∗ dutyTok ER (recvCell (fwd c t) t) 0 0)).symm)
      isplitl [Hx]; · iexact Hx
      iapply (Entails.of_eq (bigSep_sep' (Ico 1 32) (fun t => (dutyTok ER (sendCell c t) 0 0 : sProp 𝕄)) fun t => dutyTok ER (recvCell (fwd c t) t) 0 0).symm)
      isplitl [Hts] <;> iassumption
    isplitl [Htc Hw Hf Hac0 Hac1]
    · iapply (wSt_intro X V c)
      isplitr; · iexact HI
      isplitl [Htc]; · iexact Htc
      isplitl [Hw]; · iexact Hw
      isplitl [Hf]; · iexact Hf
      isplitl [Hac0] <;> iassumption
    isplitl [Hcr Har Htl Hg Hal]
    · iapply (locStart_intro X V c)
      isplitr; · iexact HI
      isplitl [Hcr]; · iexact Hcr
      isplitl [Har]; · iexact Har
      isplitl [Htl]; · iexact Htl
      isplitl [Hg] <;> iassumption
    isplitl [Hout]; · iexact Hout
    iexact Has
  · unfold idle
    isplitl [Hz]; · iexact Hz
    isplitl [Has0] <;> iassumption

/-! ## The exit -/

/-- The positions at the end, family by family, are those of a device's cells past their last rounds. -/
theorem positions_end :
    iprop((atPos ER (sendCell c 0) 0 ∅ 0 ∗ bigSep (Ico 1 32) fun t => atPos ER (sendCell c t) 1 ∅ 0)
        ∗ (atPos ER (recvCell c 0) 0 ∅ 0 ∗ bigSep (Ico 1 32) fun t => atPos ER (recvCell c t) 1 ∅ 0)
        ∗ (atPos ER (copyCell c 0) 4 ∅ 0 ∗ atPos ER (copyCell c 1) 4 ∅ 0)
        ∗ (bigSep (Ico 32 36) fun t => atPos ER (locCell c (t % 4)) ((t - 1) / 4) ∅ 0) ∗ atPos ER (barCell c) 1 ∅ 0)
      ⊢ bigSep Finset.univ fun k : Fin 71 => (atPos ER (kcell (c, k)) (lastRound k.val) ∅ 0 : sProp 𝕄) := by
  rw [cells_eq c fun g k => (atPos ER g (lastRound k) ∅ 0 : sProp 𝕄),
    bigSep_Ico_succ_bot (b := 32) (by decide) fun t => (atPos ER (sendCell c t) (lastRound t) ∅ 0 : sProp 𝕄),
    bigSep_Ico_succ_bot (b := 32) (by decide) fun t => (atPos ER (recvCell c t) (lastRound (32 + t)) ∅ 0 : sProp 𝕄)]
  rw [bigSep_two, loc_positions_end,
    bigSep_congr (s := Ico (0 + 1) 32) fun t ht => (by
      have h := Finset.mem_Ico.mp ht
      rw [show lastRound t = 1 by unfold lastRound; rw [if_pos (by omega), if_neg (by omega)]] :
        (atPos ER (sendCell c t) (lastRound t) ∅ 0 : sProp 𝕄) = atPos ER (sendCell c t) 1 ∅ 0),
    bigSep_congr (s := Ico (0 + 1) 32) fun t ht => (by
      have h := Finset.mem_Ico.mp ht
      rw [show lastRound (32 + t) = 1 by unfold lastRound; rw [if_pos (by omega), if_neg (by omega)]] :
        (atPos ER (recvCell c t) (lastRound (32 + t)) ∅ 0 : sProp 𝕄) = atPos ER (recvCell c t) 1 ∅ 0)]
  exact Entails.of_eq rfl

/-- After the last wait for a send: nothing owed, the row blocks back, the send cells past their round. -/
theorem retSt_exit :
    (retSt X V c 32 : sProp 𝕄) ⊢ iprop(base X V c 0 ∗ (bigSep (Ico 1 32) fun t => xP X c (fwd c t)) ∗ bigSep (Ico 1 32) fun t => atPos ER (sendCell c t) 1 ∅ 0) := by
  unfold retSt
  iintro ⟨HB, -, H⟩
  isplitl [HB]; · iexact HB
  iapply (Entails.of_eq (bigSep_sep' (Ico 1 32) (fun t => (xP X c (fwd c t) : sProp 𝕄)) fun t => atPos ER (sendCell c t) 1 ∅ 0))
  iexact H

/-- After the last group: `w` and the double buffer whole, the copy cells past their four rounds. -/
theorem wSt_exit :
    (wSt V c 32 8 0 : sProp 𝕄) ⊢ iprop(wWhole V c ∗ (∃ f : Buf (Elt F) ((c : Thread nD τ).loc cc0_scratch2), ((c : Thread nD τ).loc cc0_scratch2) ↦{fullShare} f)
      ∗ atPos ER (copyCell c 0) 4 ∅ 0 ∗ atPos ER (copyCell c 1) 4 ∅ 0) := by
  unfold wSt wWhole
  rw [w_split]
  iintro ⟨-, Hw, Hf, -, ⟨%S, %hS, H0, -⟩, H1, -⟩
  isplitl [Hw]; · iexact Hw
  isplitl [Hf]; · iapply (wbuf_join8 V c); iexact Hf
  isplitl [H0]; · rw [hS.2 rfl]; iexact H0
  iexact H1

/-- After the last local copy: the receive cells past their round, the slots filled, the gathered buffer whole, the local
    cells past their last rounds. -/
theorem locSt_exit :
    (locSt X c 32 32 32 : sProp 𝕄) ⊢ iprop((bigSep (Ico 1 32) fun t => atPos ER (recvCell c t) 1 ∅ 0) ∗ (bigSep (Ico 1 32) fun t => slotP c t (slotC X c))
      ∗ (∃ f : Buf (Elt F) ((c : Thread nD τ).loc cc0_scratch1), ((c : Thread nD τ).loc cc0_scratch1) ↦{fullShare} f)
      ∗ bigSep (Ico 32 36) fun t => atPos ER (locCell c (t % 4)) ((t - 1) / 4) ∅ 0) := by
  unfold locSt
  rw [gath_whole]
  iintro ⟨-, Ha, -, -, -, Hs, Hg, Hl, -⟩
  isplitl [Ha]; · iexact Ha
  isplitl [Hs]; · iexact Hs
  isplitl [Hg]; · iexists _; iexact Hg
  iexact Hl

/-- A device leaves its body: its cells close, its buffers are whole again and its output block is computed. -/
theorem leave :
    iprop(extSt X V c ∗ idle c)
      ⊢ |={Set.univ}=> iprop(finish V c ∗ (∃ W, owes (c : Thread nD τ) (0 : CellTallies nD τ sig Unit) W) ∗ xWhole X c ∗ (outP c (outV X V c) : sProp 𝕄)) := by
  unfold extSt idle
  iintro ⟨⟨Hr, Hab, Hxc, Hw, Hl, Ho⟩, Hz, Has0, Har0⟩
  ihave Hr := (retSt_exit X V c) $$ Hr
  unfold base
  icases Hr with ⟨⟨#HI, -, HO⟩, Hx, Has⟩
  ihave Hw := (wSt_exit V c) $$ Hw
  icases Hw with ⟨Hw, Hs2, Hac0, Hac1⟩
  ihave Hl := (locSt_exit X c) $$ Hl
  icases Hl with ⟨Har, Hs, Hs1, Hal⟩
  ihave Hat := (positions_end (F := F) c) $$ [Has0 Has Har0 Har Hac0 Hac1 Hal Hab]
  · isplitl [Has0 Has]; · (isplitl [Has0] <;> iassumption)
    isplitl [Har0 Har]; · (isplitl [Har0] <;> iassumption)
    isplitl [Hac0 Hac1]; · (isplitl [Hac0] <;> iassumption)
    isplitl [Hal] <;> iassumption
  imod (close_all X V c) $$ [Hat] with Hsem
  · isplitr; · iexact HI
    iexact Hat
  imodintro
  unfold finish scratches
  isplitl [Hsem Hz Hs Hs1 Hs2 Hw]
  · isplitl [Hsem]; · iexact Hsem
    isplitl [Hz Hs Hs1 Hs2]
    · isplitl [Hz Hs]
      · iapply (slots_join X c)
        isplitl [Hz] <;> iassumption
      isplitl [Hs1] <;> iassumption
    iexact Hw
  isplitl [HO]; · iexact HO
  isplitl [Hxc Hx]
  · unfold xWhole
    rw [x_split]
    isplitl [Hxc] <;> iassumption
  iexact Ho

end Cert.KernelIdealProof

end
-- ==== Proof.Launch.lean ====
/-
The launch: the pipeline's data on each device, the body's obligation from the run of the body, and the run of the whole
mesh, for any float values, from any memory.
-/
module

public import proofs.«01_k».proof.Proof.EnterLeave
public import proofs.«01_k».proof.Proof.Gen.KernelIdeal.Launch
public import proofs.«01_k».proof.Proof.Gen.KernelIdeal.Points
public import Idealize.ShloMosaic.Lib.Pipeline.CollectiveSegs

@[expose] public section

set_option maxRecDepth 16384

noncomputable section

namespace Cert.KernelIdealProof

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Finset (Ico)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: arbitrary contents and registers, every counter zero. -/
def s₀ : MemSt nD τ sig (Elt F) := ⟨m, fun _ => 0, ρ⟩

/-- The block of `x` each device stages, and each device's `w`. -/
def xIn (c : Dev nD) : (cc0_stg0_0 : Ref sig .tc).ty.Contents (Elt F) :=
  (win0_0.blk (0 : Fin 1)).view.read (Elt F) (m ((c : Thread nD τ).loc main_arg0))
def wIn (c : Dev nD) : (main_arg1 : Ref sig .tc).ty.Contents (Elt F) := m ((c : Thread nD τ).loc main_arg1)

/-! ## The pipeline's data -/

/-- Before the only point: what the launch gives and the scratch buffers; after it: what the launch takes back. -/
def dats (_ : Fin 1) (c : Dev nD) : Pipeline.Dat τ (Elt F) Unit ℕ UU ℕ cfg0 c where
  A w := m ((cfg0.win w).arr.view.loc (c : Thread nD τ))
  after w _ := match w with
    | ⟨0, _⟩ => xIn m c
    | ⟨1, _⟩ => outV (xIn m) (wIn m) c
  Φ t := match t with
    | ⟨0, _⟩ => iprop(start (xIn m) (wIn m) c ∗ scratches c)
    | ⟨_ + 1, _⟩ => finish (wIn m) c
  q _ := fullShare
  owed t := match t with
    | ⟨0, _⟩ => owedSig c 1
    | ⟨_ + 1, _⟩ => 0

/-- Owning a whole buffer at `f` is holding it at contents that are `f`. -/
theorem owns_whole_eq (c : Dev nD) (b : Ref sig .tc) (f : b.ty.Contents (Elt F)) :
    (owns (Ix := Unit) (Name := ℕ) (U := UU) (Lvl := ℕ) (c : Thread nD τ) (Memref.whole b) fullShare f : sProp 𝕄)
      = iprop(∃ g : Buf (Elt F) ((c : Thread nD τ).loc b), ⌜g = f⌝ ∗ ((c : Thread nD τ).loc b) ↦{fullShare} g) := by
  unfold owns; simp only [Memref.view_whole, View.read_whole, View.set_whole]

/-- A staging buffer, whole, holding `f`. -/
abbrev stg (c : Dev nD) (b : Ref sig .tc) (f : b.ty.Contents (Elt F)) : sProp 𝕄 :=
  iprop(∃ g : Buf (Elt F) ((c : Thread nD τ).loc b), ⌜g = f⌝ ∗ ((c : Thread nD τ).loc b) ↦{fullShare} g)

def pre (c : Dev nD) : sProp 𝕄 :=
  iprop((start (xIn m) (wIn m) c ∗ scratches c) ∗ (dats m 0 c).owesAt () t0_0.castSucc
    ∗ (∃ d, stg c cc0_stg0_0 ((dats m 0 c).before (0 : Fin 2) t0_0 d))
    ∗ (∃ d, stg c cc0_stg1_0 ((dats m 0 c).before (1 : Fin 2) t0_0 d)))

def post (c : Dev nD) : sProp 𝕄 :=
  iprop(finish (wIn m) c ∗ (dats m 0 c).owesAt () t0_0.succ ∗ stg c cc0_stg0_0 (xIn m c) ∗ stg c cc0_stg1_0 (outV (xIn m) (wIn m) c))

/-- What the launch brings to the body is what a device enters it with, and what no step touches. -/
theorem pre_enter (c : Dev nD) : pre m c ⊢ iprop(entSt (xIn m) (wIn m) c ∗ (idle c : sProp 𝕄)) := by
  unfold pre
  iintro ⟨⟨Hs, Hr⟩, Ho, ⟨%d0, %g0, %hg0, Hx⟩, ⟨%d1, %g1, -, Hout⟩⟩
  have hx : g0 = xIn m c := by rw [hg0]; unfold Pipeline.Dat.before; rw [if_pos (fetch0_0 t0_0)]; rfl
  subst hx
  unfold Pipeline.Dat.owesAt Pipeline.owesWithin
  icases Ho with ⟨%W, -, HO⟩
  iapply (enter (xIn m) (wIn m) c)
  isplitl [Hs]; · iexact Hs
  isplitl [Hr]; · iexact Hr
  isplitl [HO]; · iexists W; iexact HO
  isplitl [Hx]; · unfold xWhole; iexact Hx
  iexists g1
  unfold outP
  iexact Hout

/-- What a device leaves the body with, and what no step touched, gives back what the launch asks after the body. -/
theorem leave_post (c : Dev nD) : iprop(extSt (xIn m) (wIn m) c ∗ (idle c : sProp 𝕄)) ⊢ |={Set.univ}=> post m c := by
  iintro H
  imod (leave (xIn m) (wIn m) c) $$ H with ⟨Hf, ⟨%W, HO⟩, Hx, Ho⟩
  imodintro
  unfold post Pipeline.Dat.owesAt Pipeline.owesWithin xWhole outP
  isplitl [Hf]; · iexact Hf
  isplitl [HO]
  · iexists W
    isplitr; · ipureintro; exact fun _ _ => Or.inl trivial
    iexact HO
  isplitl [Hx]
  · iexists _; isplitr; · (ipureintro; rfl)
    iexact Hx
  iexists _; isplitr; · (ipureintro; rfl)
  iexact Ho

/-- The body, run from what the launch brings to it, ends in what the launch asks after it. -/
theorem sound_body (c : Dev nD) : pre m c ⊢ WP c (onBufs cc0_body) fun _ => post m c :=
  ((pre_enter m c).trans (sep_mono_left (body_wp (Q := fun _ => extSt (xIn m) (wIn m) c) (Entails.of_eq rfl)))).trans <|
    (wp_frame_r frame (wpE (defs₀ (F := F)) 𝒱₀ (c : Thread nD τ) none) Set.univ).trans <|
      (wp_mono frame (wpE (defs₀ (F := F)) 𝒱₀ (c : Thread nD τ) none) Set.univ fun _ => leave_post m c).trans
        (wp_fupd frame (wpE (defs₀ (F := F)) 𝒱₀ (c : Thread nD τ) none) Set.univ _ _)

/-- The same, in the form in which the launch asks it. -/
theorem body_obligation (c : Dev nD) : Pipeline.BodyObligation (dats (F := F) m 0 c) (defs₀ (F := F)) 𝒱₀ () Set.univ := fun t => by
  rw [fin_N0 t, bigSep_W0, bigSep_W0]
  simp only [owns_whole_eq]
  exact sound_body m c

/-! ## The conditions of the launch -/

/-- The kernel's own semaphores are scoped, all different, and none is one of the staging's. -/
theorem ownSemFacts : Pipeline.OwnSemFacts cfg0.spec osem := by decide +kernel

/-- Every window's share is the full one. -/
theorem share_eq (c : Dev nD) (w : Fin cfg0.W) : (dats m 0 c).share w = fullShare := by unfold Pipeline.Dat.share; split <;> rfl

/-- The waits of the staging transfers are allowed, whatever the device still owes then. -/
theorem waits (c : Dev nD) : (levAts L lv : sProp 𝕄) ⊢ Pipeline.cellsWaits cfgs (dats m) () 0 c :=
  Pipeline.cellsWaits_intro cfgs (dats m) () 0 c fun w s t =>
    mayWait_low c _ (by fin_cases w <;> fin_cases s <;> decide) _ (by
      rcases t with ⟨_ | _, ht⟩
      · exact Or.inl rfl
      · exact Or.inr rfl)

/-- What a device is launched with gives what it starts from. -/
theorem start_intro (c : Dev nD) :
    iprop(Pipeline.unscopedRestP Pipeline.Prefetch.none cfg0.spec c (fun b => m ((c : Thread nD τ).loc b)) ∗ levAts L lv
        ∗ Pipeline.launchCred (fun d => owedSig d 1) c ∗ prngReg c (ρ c) ∗ ghost (xIn m) (wIn m) c)
      ⊢ |={Set.univ}=> (iprop(start (xIn m) (wIn m) c ∗ emp) : sProp 𝕄) := by
  rw [Pipeline.unscopedRestP_none, unscopedRest0_eq]
  iintro ⟨Hw, Hlev, Hcr, -, HG⟩
  ihave Hc := (creds (F := F) c) $$ Hcr
  imodintro
  unfold start wWhole wIn
  isplitl
  · isplitl [HG]; · iexact HG
    isplitl [Hc]; · iexact Hc
    isplitl [Hlev]; · iexact Hlev
    iexact Hw
  · iempintro

/-- What it starts from and the scratch buffers are what is held before the body. -/
theorem first_intro (c : Dev nD) :
    iprop(start (xIn m) (wIn m) c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(start (xIn m) (wIn m) c ∗ scratches c) from rfl, scopedRest0_eq]
  unfold scratches
  iintro ⟨Hs, -, Hr⟩
  isplitl [Hs] <;> iassumption

/-- What is held after the body gives back the counters at zero, `w` and the scratch buffers. -/
theorem last_exit (c : Dev nD) :
    (dats m 0 c).Φ (Fin.last cfg0.N) ⊢ iprop((unscopedSems0 c ∗ wWhole (wIn m) c) ∗ Pipeline.ownSems0 osem c ∗ Pipeline.scopedRest cfg0.spec c) := by
  rw [show (dats m 0 c).Φ (Fin.last cfg0.N) = finish (wIn m) c from rfl, scopedRest0_eq]
  unfold finish scratches
  rw [← sems_eq]
  iintro ⟨⟨Ho, Hu⟩, Hr, Hw⟩
  isplitl [Hu Hw]
  · isplitl [Hu] <;> iassumption
  isplitl [Ho] <;> iassumption

/-- What a device hands back shows the runtime's counter at zero and `w` unchanged. -/
theorem read_back (c : Dev nD) (s' : Phys nD τ sig (Elt F)) :
    iprop((unscopedSems0 c ∗ wWhole (wIn m) c) ∗ emp ∗ SI s')
      ⊢ |={Set.univ}=> (iprop(⌜(∀ sm : SemLoc sig, sm.isScoped .tc = false → s'.mem.sem ((c : Thread nD τ), sm) = 0)
          ∧ s'.mem.mem ((c : Thread nD τ).loc main_arg1) = m ((c : Thread nD τ).loc main_arg1)⌝ ∗ SI s') : sProp 𝕄) := by
  unfold wWhole wIn
  iintro ⟨⟨Hu, Hw⟩, -, HSI⟩
  icombine HSI Hw gives %hw
  imod (Pipeline.unscopedSems0_read (X := unscopedSems0 c) (c := c) fupd_intro s') $$ [Hu HSI] with ⟨%hu, HSI⟩
  · isplitl [Hu] <;> iassumption
  imodintro
  isplitr; · ipureintro; exact ⟨hu, funext fun i => hw i (Finset.mem_univ i)⟩
  iexact HSI

/-! ## The run -/

def u₀ : UU :=
  (initOf (Pipeline.cells cfgs cellOf_inj) (Pipeline.launchToks cfgs cellOf_inj), initOf allCells allToks)

/-- Each window's array after the run. -/
def finalA (c : Dev nD) (w : Fin cfg0.W) : Buf (Elt F) ((cfg0.win w).arr.view.loc (c : Thread nD τ)) := (dats m 0 c).arrAt w cfg0.N

/-- Every device's arrays end as the pipeline leaves them, `w` unchanged. -/
def Final (r : PUnit × MemSt nD τ sig (Elt F)) : Prop :=
  ∀ c : Dev nD, (∀ w : Fin cfg0.W, r.2.mem ((cfg0.win w).arr.view.loc (c : Thread nD τ)) = finalA m c w)
    ∧ r.2.mem ((c : Thread nD τ).loc main_arg1) = m ((c : Thread nD τ).loc main_arg1)

/-- Every execution of the 32 devices ends, without a fault, with the arrays at their final contents and every counter at zero. -/
theorem run_main : θ_run defs (onTc (τ := τ) (main (F := F))) (s₀ m ρ) (fun r => Final m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := fun d => owedSig d 1) (howed₀ := fun _ => rfl) (howedN := fun _ => rfl)
    (L := L) (lv := lv) (hL := L_of_ne) (hwaits := waits m)
    (G := deal (xIn m) (wIn m)) (G' := ghost (xIn m) (wIn m)) (u₀ := u₀)
    (hu₀ := by
      unfold u₀
      iintro Hu
      ihave H := (ownU_pair _ _) $$ Hu
      icases H with ⟨HP, HX⟩
      imod (fund_all (xIn m) (wIn m)) $$ HX with HG
      imodintro
      isplitl [HP] <;> iassumption)
    (hglob := glob (xIn m) (wIn m))
    (hA := fun _ _ => rfl) (hpf := fun _ k => k.elim0)
    (X := start (xIn m) (wIn m)) (Y := fun c => iprop(unscopedSems0 c ∗ wWhole (wIn m) c)) (Z := fun _ => iprop(emp))
    (hX := start_intro m ρ) (hin := first_intro m) (hout := last_exit m)
    (QY := fun c s => (∀ sm : SemLoc sig, sm.isScoped .tc = false → s.sem ((c : Thread nD τ), sm) = 0)
      ∧ s.mem ((c : Thread nD τ).loc main_arg1) = m ((c : Thread nD τ).loc main_arg1))
    (hY := read_back m)
    (hQ := fun _ h hs => ⟨fun c => ⟨(h c).1, (h c).2.2.2⟩, sem_eq_zero hs fun c => (h c).2.2.1⟩)

/-- The array of `x` ends as it was. -/
theorem finalA_x (c : Dev nD) : finalA m c (0 : Fin 2) = m ((c : Thread nD τ).loc main_arg0) :=
  (dats (F := F) m 0 c).arrAt_in (0 : Fin 2) rfl _

end Cert.KernelIdealProof

end
-- ==== Proof.Final.lean ====
/-
What the run of the mesh leaves: the output array of a device is the block that its body leaves, and the block of `x` that the
body reads is the whole argument.
-/
module

public import proofs.«01_k».proof.Proof.Launch
public import Idealize.ShloMosaic.Lib.Pipeline.ValueKit

@[expose] public section

set_option maxRecDepth 16384

noncomputable section

namespace Cert.KernelIdealProof

open Cert.KernelIdeal Cert.KernelIdeal.Gen
open Idealize.ShloMosaic
open Idealize.ShloMosaic.TcCoe
open Idealize.SL.Sem

variable {F : FTy → Type} [FloatOps F] (m : (ℓ : Loc nD τ sig) → Buf (Elt F) ℓ) (ρ : Dev nD → PrngReg) (c : Dev nD)

/-- The block of `x` is the whole argument. -/
theorem xIn_eq : xIn m c = m ((c : Thread nD τ).loc main_arg0) := by
  funext i
  show m ((c : Thread nD τ).loc main_arg0) ((win0_0.blk (0 : Fin 1)).view.emb i) = _
  refine congrArg (m ((c : Thread nD τ).loc main_arg0)) (funext fun a => Fin.ext ?_)
  blk_simp
  match a with
  | ⟨0, _⟩ => simp; decide
  | ⟨1, _⟩ => simp; decide

/-- The output array after the run. -/
theorem finalA_out : finalA m c (1 : Fin 2) = outV (xIn m) (wIn m) c := by
  refine (dats m 0 c).arrAt_eq_of_after_last (1 : Fin 2) t0_0 (by decide +kernel) _ fun j => ?_
  rfl

/-- The run of the mesh: each device's result, its arguments unchanged, and every counter back at zero. -/
theorem run_out : θ_run defs (onTc (τ := τ) (main (F := F))) ⟨m, fun _ => 0, ρ⟩ fun r =>
    (∀ c : Dev nD, r.2.mem ((c : Thread nD τ).loc main_v1)
        = outV (fun d => m ((d : Thread nD τ).loc main_arg0)) (fun d => m ((d : Thread nD τ).loc main_arg1)) c
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0 :=
  (θ_run defs _ _).mono (fun _ h => ⟨fun c => ⟨((h.1 c).1 (1 : Fin 2)).trans ((finalA_out m c).trans
      (congrArg (fun X => outV X (wIn m) c) (funext (xIn_eq m)))), ((h.1 c).1 (0 : Fin 2)).trans (finalA_x m c), (h.1 c).2⟩, h.2⟩) (run_main m ρ)

end Cert.KernelIdealProof

end
-- ==== Proof.Product.lean ====
/-
The sums of the value claim, over any commutative monoid: the products that a device adds group by group, in the order in
which the blocks arrive, are all the products of one row with one column, each once.
-/
module

public import proofs.«01_k».proof.Proof.Geometry
public import Idealize.ShloMosaic.Lib.Pipeline.ValueKit.Acc

@[expose] public section

namespace Cert.KernelIdealProof

open Cert.KernelIdeal
open Idealize.ShloMosaic
open Finset (range)

variable {M : Type} [AddCommMonoid M]

/-- A sum over the positions of a group of four blocks of 128 is the sum over the blocks of the sums over their positions. -/
theorem sum_group (φ : ℕ → ℕ → M) : (∑ k : Fin 512, φ (k.val / 128) (k.val % 128)) = ∑ i ∈ range 4, ∑ r ∈ range 128, φ i r := by
  rw [Fin.sum_univ_eq_sum_range (fun k => φ (k / 128) (k % 128)) 512, show 512 = 4 * 128 from rfl, Finset.sum_range_mul_split]
  refine Finset.sum_congr rfl fun i _ => Finset.sum_congr rfl fun r hr => ?_
  have := Finset.mem_range.mp hr
  rw [show (i * 128 + r) / 128 = i by omega, show (i * 128 + r) % 128 = r by omega]

/-- The eight groups of four blocks are the thirty-two blocks. -/
theorem sum_groups (ψ : ℕ → M) : (∑ j ∈ range 8, ∑ i ∈ range 4, ψ (4 * j + i)) = ∑ n ∈ range 32, ψ n := by
  rw [show (32 : ℕ) = 8 * 4 from rfl, Finset.sum_range_mul_split]
  exact Finset.sum_congr rfl fun j _ => Finset.sum_congr rfl fun i _ => by rw [Nat.mul_comm]

/-- The devices at distances 0 to 31 before a device are all the devices, each once. -/
theorem sum_bwd (c : Dev nD) (g : Dev nD → M) : (∑ n ∈ range 32, g (bwd c n)) = ∑ d : Dev nD, g d := by
  refine Finset.sum_bij' (fun n _ => bwd c n) (fun d _ => (c.val + (32 - d.val)) % 32) (fun _ _ => Finset.mem_univ _)
    (fun _ _ => Finset.mem_range.mpr (Nat.mod_lt _ (by decide))) ?_ ?_ (fun _ _ => rfl)
  · intro n hn
    have := Finset.mem_range.mp hn
    have := dev_lt c
    simp only; omega
  · intro d _
    have := dev_lt c
    have := dev_lt d
    refine Fin.ext ?_
    simp only; omega

/-- The thirty-two blocks of 128 positions are the 4096 positions. -/
theorem sum_positions (f : ℕ → M) : (∑ d : Dev nD, ∑ r ∈ range 128, f (128 * d.val + r)) = ∑ k : Fin 4096, f k.val := by
  rw [Fin.sum_univ_eq_sum_range f 4096, show (4096 : ℕ) = 32 * 128 from rfl, Finset.sum_range_mul_split,
    ← Fin.sum_univ_eq_sum_range (fun d => ∑ r ∈ range 128, f (d * 128 + r)) 32]
  exact Finset.sum_congr rfl fun d _ => Finset.sum_congr rfl fun r _ => by rw [Nat.mul_comm]

/-- The products that device `c` adds, group by group, are the products at all the 4096 positions. -/
theorem sum_all (c : Dev nD) (f : ℕ → M) :
    (∑ j ∈ range 8, ∑ k : Fin 512, f (128 * (bwd c (4 * j + k.val / 128)).val + k.val % 128)) = ∑ k : Fin 4096, f k.val := by
  rw [← sum_positions, ← sum_bwd c, ← sum_groups]
  exact Finset.sum_congr rfl fun j _ => sum_group fun i r => f (128 * (bwd c (4 * j + i)).val + r)

end Cert.KernelIdealProof

end
-- ==== Proof.Value.lean ====
/-
The value of a device's output block at the extended reals: at each place, the activation of the full product of a row of `x`
with a column of `w`.
-/
module

public import proofs.«01_k».proof.Proof.Body
public import proofs.«01_k».proof.Proof.Product
public import Idealize.ShloMosaic.Lib.MatmulPlain

@[expose] public section

set_option maxRecDepth 16384

noncomputable section

namespace Cert.KernelIdealProof

open Cert.KernelIdeal Cert.KernelIdeal.Gen
open Idealize.ShloMosaic
open Idealize.ShloMosaic.ValueIdx
open Finset (range)

/-- The activation of one number: half of it times one plus the hyperbolic tangent of a multiple of it and its cube. -/
def act (a : EReal) : EReal :=
  (Ideal.ofBits .f32 0x3F000000#32 * a) * (Ideal.ofBits .f32 0x3F800000#32
    + Ideal.tanh (Ideal.ofBits .f32 0x3F4C422A#32 * (a + Ideal.ofBits .f32 0x3D372713#32 * ((a * a) * a))))

/-- One group's step: its product added to the sum so far. -/
def step (acc : FVec Ideal S128x2048 .f32) (w : Vec Ideal S1x512x2048 .f32) (x : Vec Ideal S128x512 .bf16) : FVec Ideal S128x2048 .f32 :=
  k0_pay3 acc w x

/-- A step at a place: the sum so far plus the products of a row of the group with a column of it. -/
theorem step_apply (acc : FVec Ideal S128x2048 .f32) (w : Vec Ideal S1x512x2048 .f32) (x : Vec Ideal S128x512 .bf16) (p : Fin 128) (q : Fin 2048) :
    step acc w x (ix2 p q) = (acc (ix2 p q) + ∑ k : Fin 512, x (ix2 p k) * w (ix3 (0 : Fin 1) k q) : EReal) := by
  show (acc (ix2 p q) + FloatOps.matmul (F := Ideal) (DotDims.plain 128 512 2048) none x (shapeCast S512x2048 w shapeCasts_S1x512x2048_S512x2048)
    (constant S128x2048 .f32 0x00000000#32) (ix2 p q) : EReal) = _
  rw [Ideal.matmul_plain_apply]
  refine congrArg (acc (ix2 p q) + ·) ?_
  show (Ideal.ofBits .f32 0x00000000#32 + _ : EReal) = _
  rw [Ideal.ofBits_zero_f32, zero_add]
  refine Finset.sum_congr rfl fun k _ => congrArg (x (ix2 p k) * ·) ?_
  refine shapeCast_apply w _ (ix2 k q) (ix3 (0 : Fin 1) k q) ?_
  rw [Shape.rowMajor_val_two, Shape.rowMajor_val_three]
  simp

section Sum
variable (X : (c : Dev nD) → (cc0_stg0_0 : Ref sig .tc).ty.Contents (Elt Ideal)) (V : (c : Dev nD) → (main_arg1 : Ref sig .tc).ty.Contents (Elt Ideal))
  (c : Dev nD)

/-- The sum after `n` groups. -/
def acc : ℕ → FVec Ideal S128x2048 .f32
  | 0 => k0_pay2
  | n + 1 => step (acc n) (wv V c n) (gv X c n)

/-- The sum after `n` groups, at a place. -/
theorem acc_apply (p : Fin 128) (q : Fin 2048) (n : ℕ) :
    acc X V c n (ix2 p q) = (∑ j ∈ range n, ∑ k : Fin 512, gv X c j (ix2 p k) * wv V c j (ix3 (0 : Fin 1) k q) : EReal) := by
  induction n with
  | zero => exact Ideal.ofBits_zero_f32
  | succ n ih => rw [Finset.sum_range_succ, ← ih]; exact step_apply _ _ _ p q

/-- The product at position `k` of the row of `x` and the column of `w` that meet at row `p` of device `c`'s block and column `q`. -/
def term (p : Fin 128) (q : Fin 2048) (k : ℕ) : EReal :=
  (show EReal from X ⟨k / 128 % 32, Nat.mod_lt _ (by decide)⟩
      (ix2 ⟨128 * c.val + p.val, by have := dev_lt c; omega⟩ ⟨k % 128, Nat.mod_lt _ (by decide)⟩ : S4096x128.Idx))
    * (show EReal from V c (ix2 ⟨k % 4096, Nat.mod_lt _ (by decide)⟩ q : S4096x2048.Idx))

/-- After the eight groups: all the products. -/
theorem acc_eight (p : Fin 128) (q : Fin 2048) : acc X V c 8 (ix2 p q) = ∑ k : Fin 4096, term X V c p q k.val := by
  rw [acc_apply, ← sum_all c (term X V c p q)]
  refine Finset.sum_congr rfl fun j _ => Finset.sum_congr rfl fun k _ => ?_
  have hd := dev_lt (bwd c (4 * j + k.val / 128))
  unfold term gv wv
  refine congrArg₂ (· * ·) ?_ ?_
  · have e : (⟨(128 * (bwd c (4 * j + k.val / 128)).val + k.val % 128) / 128 % 32, Nat.mod_lt _ (by decide)⟩ : Dev nD) = bwd c (4 * j + k.val / 128) :=
      Fin.ext (by simp only; omega)
    rw [e]
    refine congrArg (X (bwd c (4 * j + k.val / 128))) (congrArg₂ ix2 rfl (Fin.ext ?_))
    show k.val % 128 = (128 * (bwd c (4 * j + k.val / 128)).val + k.val % 128) % 128
    omega
  · refine congrArg (V c) (congrArg₂ ix2 (Fin.ext ?_) rfl)
    show 128 * (bwd c (4 * j + k.val / 128)).val + k.val % 128
      = (128 * (bwd c (4 * j + k.val / 128)).val + k.val % 128) % 4096
    omega

/-- The output block at a place: the activation of the sum of all the products. -/
theorem outV_apply (p : Fin 128) (q : Fin 2048) : outV X V c (ix2 p q) = act (∑ k : Fin 4096, term X V c p q k.val) := by
  rw [← acc_eight]
  generalize hA : acc X V c 8 (ix2 p q) = a
  have h : outV X V c (ix2 p q) = ((Ideal.ofBits .f32 0x3F000000#32 * a) * (Ideal.ofBits .f32 0x3F800000#32
      + Ideal.tanh (Ideal.ofBits .f32 0x3F4C422A#32 * (a + ((Ideal.ofBits .f32 0x3D372713#32 * a) * a) * a))) : EReal) := by
    subst hA; rfl
  rw [h, act, mul_assoc, mul_assoc (Ideal.ofBits .f32 0x3D372713#32), mul_assoc (Ideal.ofBits .f32 0x3D372713#32), mul_assoc a a a]
  rw [mul_assoc]

end Sum

end Cert.KernelIdealProof

end
-- ==== Proof.Reference.lean ====
/-
The value of the reference at the extended reals: at each place, the activation of the product of a row of the whole `x` with a
column of `w`; and the kernel's block of device `c` is block `c` of it.
-/
module

public import proofs.«01_k».proof.Proof.Value
public import proofs.«01_k».proof.Proof.Gen.ReferenceIdeal.Run
public import Idealize.ShloMosaic.Lib.StackMember
public import Idealize.ShloMosaic.Lib.Layout
public import Idealize.ShloMosaic.Lib.Quiescent

@[expose] public section

set_option maxRecDepth 16384

noncomputable section

namespace Cert.KernelIdealProof

open Idealize.ShloMosaic
open Idealize.ShloMosaic.ValueIdx
open Idealize.ShloMosaic.TcCoe
open Idealize.SL.Sem

/-- The reference's result from its two arguments: the activation of the product of a row of `x` with a column of `w`. -/
def refV (x : FVec Ideal Cert.ReferenceIdeal.S4096x4096 .bf16) (w : FVec Ideal Cert.ReferenceIdeal.S4096x2048 .f32) :
    FVec Ideal Cert.ReferenceIdeal.S4096x2048 .f32 :=
  fun i => act (∑ k : Fin 4096, (show EReal from x (ix2 (i 0) k)) * (show EReal from w (ix2 k (i 1))))

/-- The reference's product at a place. -/
theorem ref_product (x : FVec Ideal Cert.ReferenceIdeal.S4096x4096 .bf16) (w : FVec Ideal Cert.ReferenceIdeal.S4096x2048 .f32)
    (a : Fin 4096) (b : Fin 2048) :
    Host.dotGeneral Cert.ReferenceIdeal.dot_S4096x4096_S4096x2048_S4096x2048_1_0_0_1_n_n none
        (extf .f32 x Cert.ReferenceIdeal.Facts₀.bitsLt_bf16_f32) w (ix2 a b)
      = (∑ k : Fin 4096, (show EReal from x (ix2 a k)) * (show EReal from w (ix2 k b)) : EReal) :=
  StackMember.dotGeneral_plain_apply none (extf .f32 x Cert.ReferenceIdeal.Facts₀.bitsLt_bf16_f32) w a b

/-- The run of the reference: its result, and its arguments unchanged. -/
theorem ref_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ fun r =>
      ∀ c : Dev Cert.ReferenceIdeal.nD,
        r.2.mem ((c.tc : Thread Cert.ReferenceIdeal.nD Cert.ReferenceIdeal.τ).loc Cert.ReferenceIdeal.main_v14)
            = refV (m ((c.tc : Thread Cert.ReferenceIdeal.nD Cert.ReferenceIdeal.τ).loc Cert.ReferenceIdeal.main_arg0))
                (m ((c.tc : Thread Cert.ReferenceIdeal.nD Cert.ReferenceIdeal.τ).loc Cert.ReferenceIdeal.main_arg1))
          ∧ r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1) := by
  refine (θ_run _ _ _).mono (fun r h c => ⟨(h c).1.trans (funext fun i => ?_), (h c).2⟩) (Cert.ReferenceIdeal.Value.run (F := Ideal) m ρ)
  obtain ⟨a, b, rfl⟩ : ∃ (a : Fin 4096) (b : Fin 2048), i = ix2 a b := ⟨i 0, i 1, by funext j; match j with | ⟨0, _⟩ => rfl | ⟨1, _⟩ => rfl⟩
  unfold refV
  show _ = act (∑ k : Fin 4096, (show EReal from m ((c.tc : Thread Cert.ReferenceIdeal.nD Cert.ReferenceIdeal.τ).loc Cert.ReferenceIdeal.main_arg0) (ix2 a k))
      * (show EReal from m ((c.tc : Thread Cert.ReferenceIdeal.nD Cert.ReferenceIdeal.τ).loc Cert.ReferenceIdeal.main_arg1) (ix2 k b)))
  rw [← ref_product]
  rfl

/-- The reference's counters: it has none. -/
theorem ref_sem (s : MemSt Cert.ReferenceIdeal.nD Cert.ReferenceIdeal.τ Cert.ReferenceIdeal.sig (Elt Ideal)) : s.sem = fun _ => 0 :=
  sem_eq_zero_of_no_sems (by decide) s

/-- Device `c`'s block of the kernel's result is block `c` of the reference's, when each device holds its block of `x` and all of
    `w`. -/
theorem out_eq_block (x : FVec Ideal Cert.ReferenceIdeal.S4096x4096 .bf16) (w : FVec Ideal Cert.ReferenceIdeal.S4096x2048 .f32)
    (c : Dev Cert.KernelIdeal.nD) :
    outV (fun d : Dev Cert.KernelIdeal.nD => Layout.block ⟨2, ![4096, 128]⟩ ⟨2, ![4096, 4096]⟩ 1 32 d x) (fun _ => w) c
      = Layout.block ⟨2, ![128, 2048]⟩ ⟨2, ![4096, 2048]⟩ 0 32 c (refV x w) := by
  funext i
  obtain ⟨p, q, rfl⟩ : ∃ (p : Fin 128) (q : Fin 2048), i = ix2 p q := ⟨i 0, i 1, by funext j; match j with | ⟨0, _⟩ => rfl | ⟨1, _⟩ => rfl⟩
  rw [outV_apply]
  have hc := dev_lt c
  show _ = act (∑ k : Fin 4096, _)
  refine congrArg act (Finset.sum_congr rfl fun k _ => ?_)
  have hk := k.isLt
  refine congrArg₂ (· * ·) ?_ ?_
  · refine congrArg x (funext fun j => Fin.ext ?_)
    match j with
    | ⟨0, _⟩ => show 128 * c.val + p.val = c.val * 128 + p.val; omega
    | ⟨1, _⟩ => show (k.val / 128 % 32) * 128 + k.val % 128 = k.val; omega
  · refine congrArg w (funext fun j => Fin.ext ?_)
    match j with
    | ⟨0, _⟩ => show k.val % 4096 = k.val; omega
    | ⟨1, _⟩ => rfl

end Cert.KernelIdealProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Final
public import proofs.«01_k».proof.Proof.Reference
public import Idealize.ShloMosaic.Adequacy
public import Idealize.ShloMosaic.Init

@[expose] public section

set_option maxRecDepth 65536

noncomputable section

namespace Cert.Proof

open Idealize.ShloMosaic Idealize.SL.Sem Cert.Kernel

/-- The two printed kernels have one body. -/
theorem defs₀_eq : Cert.Kernel.defs₀ (F := Bits) = Cert.KernelIdeal.defs₀ (F := Bits) := by
  refine congrArg Defs.onTc (funext fun l => funext fun a => ?_)
  match l, a with
  | 0, (t, s) => rfl

/-- So they have one table of calls. -/
theorem defs_eq : Cert.Kernel.defs (F := Bits) = Cert.KernelIdeal.defs (F := Bits) :=
  congrArg (Pipeline.defs (Cert.KernelIdeal.pcfgs (F := Bits))) defs₀_eq

/-- The kernel's frame, from the run written for any float values. -/
theorem frame_kernel : Cert.quiescent_Kernel := by
  intro m g _
  rw [defs_eq]
  exact (θ_run Cert.KernelIdeal.defs _ _).mono (fun _ h => ⟨fun c => (h.1 c).2, h.2⟩) (Cert.KernelIdealProof.run_out (F := Bits) m g)

/-- The same of the kernel at the extended reals. -/
theorem frame_kernelIdeal : Cert.quiescent_KernelIdeal := fun m g _ =>
  (θ_run Cert.KernelIdeal.defs _ _).mono (fun _ h => ⟨fun c => (h.1 c).2, h.2⟩) (Cert.KernelIdealProof.run_out (F := Ideal) m g)

/-- The reference's frame. -/
theorem frame_referenceIdeal : Cert.quiescent_ReferenceIdeal := fun m g _ =>
  (θ_run Cert.ReferenceIdeal.defs _ _).mono (fun r h => ⟨fun c => (h c).2, Cert.KernelIdealProof.ref_sem r.2⟩)
    (Cert.KernelIdealProof.ref_run m g)

/-- The value: the reference's result from the whole arguments, of which every device ends with its block. -/
theorem algebraic : Cert.algebraic_KernelIdeal_ReferenceIdeal := fun m g m' g' _ hm =>
  ⟨Cert.KernelIdealProof.refV _ _,
    (θ_run Cert.KernelIdeal.defs _ _).mono
      (fun _ h c => ⟨(h.1 c).1.trans ((congrArg₂ (fun X V => Cert.KernelIdealProof.outV X V c) (funext fun d => (hm d).1) (funext fun d => (hm d).2)).trans
        (Cert.KernelIdealProof.out_eq_block _ _ c)), (h.1 c).2⟩)
      (Cert.KernelIdealProof.run_out (F := Ideal) m g),
    (θ_run Cert.ReferenceIdeal.defs _ _).mono (fun _ h => h 0) (Cert.KernelIdealProof.ref_run m' g')⟩

/-- All the claims: the frames of the kernel, of the kernel at the extended reals and of the reference, and the value. -/
theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
